-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1536, 768]⟩ ⟨2, ![3072, 1536]⟩ (Layout.meshBlock [2, 2] ![[0], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![768, 1536]⟩ ⟨2, ![1536, 1536]⟩ (Layout.meshBlock [2, 2] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1536, 1536]⟩ ⟨2, ![3072, 3072]⟩ (Layout.meshBlock [2, 2] ![[0], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v31) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S1536x1536 : Shape := ⟨2, ![1536, 1536]⟩
abbrev S384x1536 : Shape := ⟨2, ![384, 1536]⟩
abbrev S5 : Shape := ⟨1, ![5]⟩
abbrev S3 : Shape := ⟨1, ![3]⟩
abbrev S1 : Shape := ⟨1, ![1]⟩
abbrev S_ : Shape := ⟨0, ![]⟩
abbrev S128x1536 : Shape := ⟨2, ![128, 1536]⟩
abbrev S1536x384 : Shape := ⟨2, ![1536, 384]⟩
abbrev S1536x256 : Shape := ⟨2, ![1536, 256]⟩
abbrev S1536x128 : Shape := ⟨2, ![1536, 128]⟩
abbrev S768x512 : Shape := ⟨2, ![768, 512]⟩
abbrev S1536x512 : Shape := ⟨2, ![1536, 512]⟩
abbrev S256x1536 : Shape := ⟨2, ![256, 1536]⟩
abbrev S128x512 : Shape := ⟨2, ![128, 512]⟩

abbrev nBuf : Space → Nat
  | .hbm => 3
  | .vmem => 8
  | .smem => 0
  | _ => 0

abbrev bufTy : (tb : Table) → Fin (tcTables nBuf tb) → BufTy
  | .hbm, ⟨0, _⟩ => ⟨S1536x768, .f32⟩
  | .hbm, ⟨1, _⟩ => ⟨S768x1536, .f32⟩
  | .hbm, ⟨2, _⟩ => ⟨S1536x1536, .bf16⟩
  | .local _ .vmem, ⟨0, _⟩ => ⟨S1536x1536, .bf16⟩
  | .local _ .vmem, ⟨1, _⟩ => ⟨S1536x768, .f32⟩
  | .local _ .vmem, ⟨2, _⟩ => ⟨S768x1536, .f32⟩
  | .local _ .vmem, ⟨3, _⟩ => ⟨S1536x768, .i8⟩
  | .local _ .vmem, ⟨4, _⟩ => ⟨S384x1536, .i8⟩
  | .local _ .vmem, ⟨5, _⟩ => ⟨S1536x768, .i8⟩
  | .local _ .vmem, ⟨6, _⟩ => ⟨S768x1536, .i8⟩
  | .local _ .vmem, ⟨7, _⟩ => ⟨S1536x1536, .f32⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v17 : BitVec 32 := Scalar.muli v2 c2_i32_8
  let v18 : BitVec 32 := Scalar.addi c0_i32_9 v17
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_10 : BitVec 32 := 1#32
  let v19 : BitVec 32 := Scalar.muli v6 c1_i32_10
  let v20 : BitVec 32 := Scalar.addi v18 v19
  v20.toNat
def k0_dev2 (d0 : Dev nD) : Nat :=
  let c0_i32_13 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_12 : BitVec 32 := 2#32
  let v21 : BitVec 32 := Scalar.muli v7 c2_i32_12
  let v22 : BitVec 32 := Scalar.addi c0_i32_13 v21
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_14 : BitVec 32 := 1#32
  let v23 : BitVec 32 := Scalar.muli v5 c1_i32_14
  let v24 : BitVec 32 := Scalar.addi v22 v23
  v24.toNat
def k0_cond3 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_21 : BitVec 32 := 0#32
  let v29 : BitVec 1 := Scalar.cmpi .eq v2 c0_i32_21
  let v30 : BitVec 32 := Scalar.extui v29
  let c0_i32_22 : BitVec 32 := 0#32
  let v31 : BitVec 1 := Scalar.cmpi .ne v30 c0_i32_22
  v31

def k0_dev3 (d0 : Dev nD) : Nat :=
  let c0_i32_295 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_294 : BitVec 32 := 2#32
  let v309 : BitVec 32 := Scalar.muli v2 c2_i32_294
  let v310 : BitVec 32 := Scalar.addi c0_i32_295 v309
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_296 : BitVec 32 := 1#32
  let v311 : BitVec 32 := Scalar.muli v6 c1_i32_296
  let v312 : BitVec 32 := Scalar.addi v310 v311
  v312.toNat
def k0_cond4 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_23 : BitVec 32 := 1#32
  let v32 : BitVec 1 := Scalar.cmpi .eq v2 c1_i32_23
  let v33 : BitVec 32 := Scalar.extui v32
  let c0_i32_24 : BitVec 32 := 0#32
  let v34 : BitVec 1 := Scalar.cmpi .ne v33 c0_i32_24
  v34

def k0_dev4 (d0 : Dev nD) : Nat :=
  let c0_i32_295 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_294 : BitVec 32 := 2#32
  let v309 : BitVec 32 := Scalar.muli v2 c2_i32_294
  let v310 : BitVec 32 := Scalar.addi c0_i32_295 v309
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_296 : BitVec 32 := 1#32
  let v311 : BitVec 32 := Scalar.muli v6 c1_i32_296
  let v312 : BitVec 32 := Scalar.addi v310 v311
  v312.toNat
def k0_cond5 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_29 : BitVec 32 := 0#32
  let v39 : BitVec 1 := Scalar.cmpi .eq v2 c0_i32_29
  let v40 : BitVec 32 := Scalar.extui v39
  let c0_i32_30 : BitVec 32 := 0#32
  let v41 : BitVec 1 := Scalar.cmpi .ne v40 c0_i32_30
  v41

def k0_dev5 (d0 : Dev nD) : Nat :=
  let c0_i32_294 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_293 : BitVec 32 := 2#32
  let v309 : BitVec 32 := Scalar.muli v2 c2_i32_293
  let v310 : BitVec 32 := Scalar.addi c0_i32_294 v309
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_295 : BitVec 32 := 1#32
  let v311 : BitVec 32 := Scalar.muli v6 c1_i32_295
  let v312 : BitVec 32 := Scalar.addi v310 v311
  v312.toNat
def k0_cond6 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_31 : BitVec 32 := 1#32
  let v42 : BitVec 1 := Scalar.cmpi .eq v2 c1_i32_31
  let v43 : BitVec 32 := Scalar.extui v42
  let c0_i32_32 : BitVec 32 := 0#32
  let v44 : BitVec 1 := Scalar.cmpi .ne v43 c0_i32_32
  v44

def k0_dev6 (d0 : Dev nD) : Nat :=
  let c0_i32_294 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_293 : BitVec 32 := 2#32
  let v309 : BitVec 32 := Scalar.muli v2 c2_i32_293
  let v310 : BitVec 32 := Scalar.addi c0_i32_294 v309
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_295 : BitVec 32 := 1#32
  let v311 : BitVec 32 := Scalar.muli v6 c1_i32_295
  let v312 : BitVec 32 := Scalar.addi v310 v311
  v312.toNat
def k0_cond7 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_37 : BitVec 32 := 0#32
  let v49 : BitVec 1 := Scalar.cmpi .eq v2 c0_i32_37
  let v50 : BitVec 32 := Scalar.extui v49
  let c0_i32_38 : BitVec 32 := 0#32
  let v51 : BitVec 1 := Scalar.cmpi .ne v50 c0_i32_38
  v51

def k0_dev7 (d0 : Dev nD) : Nat :=
  let c0_i32_294 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_293 : BitVec 32 := 2#32
  let v309 : BitVec 32 := Scalar.muli v2 c2_i32_293
  let v310 : BitVec 32 := Scalar.addi c0_i32_294 v309
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_295 : BitVec 32 := 1#32
  let v311 : BitVec 32 := Scalar.muli v6 c1_i32_295
  let v312 : BitVec 32 := Scalar.addi v310 v311
  v312.toNat
def k0_cond8 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_39 : BitVec 32 := 1#32
  let v52 : BitVec 1 := Scalar.cmpi .eq v2 c1_i32_39
  let v53 : BitVec 32 := Scalar.extui v52
  let c0_i32_40 : BitVec 32 := 0#32
  let v54 : BitVec 1 := Scalar.cmpi .ne v53 c0_i32_40
  v54

def k0_dev8 (d0 : Dev nD) : Nat :=
  let c0_i32_294 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_293 : BitVec 32 := 2#32
  let v309 : BitVec 32 := Scalar.muli v2 c2_i32_293
  let v310 : BitVec 32 := Scalar.addi c0_i32_294 v309
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_295 : BitVec 32 := 1#32
  let v311 : BitVec 32 := Scalar.muli v6 c1_i32_295
  let v312 : BitVec 32 := Scalar.addi v310 v311
  v312.toNat
def k0_dev9 (d0 : Dev nD) : Nat :=
  let c0_i32_50 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_49 : BitVec 32 := 2#32
  let v69 : BitVec 32 := Scalar.muli v2 c2_i32_49
  let v70 : BitVec 32 := Scalar.addi c0_i32_50 v69
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_51 : BitVec 32 := 1#32
  let v71 : BitVec 32 := Scalar.muli v6 c1_i32_51
  let v72 : BitVec 32 := Scalar.addi v70 v71
  v72.toNat
def k0_dev10 (d0 : Dev nD) : Nat :=
  let c0_i32_59 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_58 : BitVec 32 := 2#32
  let v79 : BitVec 32 := Scalar.muli v2 c2_i32_58
  let v80 : BitVec 32 := Scalar.addi c0_i32_59 v79
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_60 : BitVec 32 := 1#32
  let v81 : BitVec 32 := Scalar.muli v6 c1_i32_60
  let v82 : BitVec 32 := Scalar.addi v80 v81
  v82.toNat
def k0_dev11 (d0 : Dev nD) : Nat :=
  let c0_i32_67 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_66 : BitVec 32 := 2#32
  let v89 : BitVec 32 := Scalar.muli v2 c2_i32_66
  let v90 : BitVec 32 := Scalar.addi c0_i32_67 v89
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_68 : BitVec 32 := 1#32
  let v91 : BitVec 32 := Scalar.muli v6 c1_i32_68
  let v92 : BitVec 32 := Scalar.addi v90 v91
  v92.toNat
def k0_cond9 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_92 : BitVec 32 := 0#32
  let v120 : BitVec 1 := Scalar.cmpi .eq v2 c0_i32_92
  let v121 : BitVec 32 := Scalar.extui v120
  let c0_i32_93 : BitVec 32 := 0#32
  let v122 : BitVec 1 := Scalar.cmpi .ne v121 c0_i32_93
  v122

def k0_dev12 (d0 : Dev nD) : Nat :=
  let c0_i32_288 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_287 : BitVec 32 := 2#32
  let v297 : BitVec 32 := Scalar.muli v7 c2_i32_287
  let v298 : BitVec 32 := Scalar.addi c0_i32_288 v297
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_289 : BitVec 32 := 1#32
  let v299 : BitVec 32 := Scalar.muli v5 c1_i32_289
  let v300 : BitVec 32 := Scalar.addi v298 v299
  v300.toNat
def k0_cond10 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_94 : BitVec 32 := 1#32
  let v123 : BitVec 1 := Scalar.cmpi .eq v2 c1_i32_94
  let v124 : BitVec 32 := Scalar.extui v123
  let c0_i32_95 : BitVec 32 := 0#32
  let v125 : BitVec 1 := Scalar.cmpi .ne v124 c0_i32_95
  v125

def k0_dev13 (d0 : Dev nD) : Nat :=
  let c0_i32_288 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_287 : BitVec 32 := 2#32
  let v297 : BitVec 32 := Scalar.muli v7 c2_i32_287
  let v298 : BitVec 32 := Scalar.addi c0_i32_288 v297
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_289 : BitVec 32 := 1#32
  let v299 : BitVec 32 := Scalar.muli v5 c1_i32_289
  let v300 : BitVec 32 := Scalar.addi v298 v299
  v300.toNat
def k0_cond11 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_107 : BitVec 32 := 0#32
  let v139 : BitVec 1 := Scalar.cmpi .eq v2 c0_i32_107
  let v140 : BitVec 32 := Scalar.extui v139
  let c0_i32_108 : BitVec 32 := 0#32
  let v141 : BitVec 1 := Scalar.cmpi .ne v140 c0_i32_108
  v141

def k0_dev14 (d0 : Dev nD) : Nat :=
  let c0_i32_288 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_287 : BitVec 32 := 2#32
  let v297 : BitVec 32 := Scalar.muli v7 c2_i32_287
  let v298 : BitVec 32 := Scalar.addi c0_i32_288 v297
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_289 : BitVec 32 := 1#32
  let v299 : BitVec 32 := Scalar.muli v5 c1_i32_289
  let v300 : BitVec 32 := Scalar.addi v298 v299
  v300.toNat
def k0_cond12 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_109 : BitVec 32 := 1#32
  let v142 : BitVec 1 := Scalar.cmpi .eq v2 c1_i32_109
  let v143 : BitVec 32 := Scalar.extui v142
  let c0_i32_110 : BitVec 32 := 0#32
  let v144 : BitVec 1 := Scalar.cmpi .ne v143 c0_i32_110
  v144

def k0_dev15 (d0 : Dev nD) : Nat :=
  let c0_i32_288 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_287 : BitVec 32 := 2#32
  let v297 : BitVec 32 := Scalar.muli v7 c2_i32_287
  let v298 : BitVec 32 := Scalar.addi c0_i32_288 v297
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_289 : BitVec 32 := 1#32
  let v299 : BitVec 32 := Scalar.muli v5 c1_i32_289
  let v300 : BitVec 32 := Scalar.addi v298 v299
  v300.toNat
def k0_cond13 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_122 : BitVec 32 := 0#32
  let v158 : BitVec 1 := Scalar.cmpi .eq v2 c0_i32_122
  let v159 : BitVec 32 := Scalar.extui v158
  let c0_i32_123 : BitVec 32 := 0#32
  let v160 : BitVec 1 := Scalar.cmpi .ne v159 c0_i32_123
  v160

def k0_dev16 (d0 : Dev nD) : Nat :=
  let c0_i32_288 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_287 : BitVec 32 := 2#32
  let v297 : BitVec 32 := Scalar.muli v7 c2_i32_287
  let v298 : BitVec 32 := Scalar.addi c0_i32_288 v297
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_289 : BitVec 32 := 1#32
  let v299 : BitVec 32 := Scalar.muli v5 c1_i32_289
  let v300 : BitVec 32 := Scalar.addi v298 v299
  v300.toNat
def k0_cond14 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_124 : BitVec 32 := 1#32
  let v161 : BitVec 1 := Scalar.cmpi .eq v2 c1_i32_124
  let v162 : BitVec 32 := Scalar.extui v161
  let c0_i32_125 : BitVec 32 := 0#32
  let v163 : BitVec 1 := Scalar.cmpi .ne v162 c0_i32_125
  v163

def k0_dev17 (d0 : Dev nD) : Nat :=
  let c0_i32_288 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_287 : BitVec 32 := 2#32
  let v297 : BitVec 32 := Scalar.muli v7 c2_i32_287
  let v298 : BitVec 32 := Scalar.addi c0_i32_288 v297
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_289 : BitVec 32 := 1#32
  let v299 : BitVec 32 := Scalar.muli v5 c1_i32_289
  let v300 : BitVec 32 := Scalar.addi v298 v299
  v300.toNat
abbrev stage0_0 : Fin 1 → Memref sig .tc .vmem S1536x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S3072x1536 : Shape := ⟨2, ![3072, 1536]⟩
abbrev S1536x1536 : Shape := ⟨2, ![1536, 1536]⟩
abbrev S3072x768 : Shape := ⟨2, ![3072, 768]⟩
abbrev S768x1536 : Shape := ⟨2, ![768, 1536]⟩
abbrev S_ : Shape := ⟨0, ![]⟩
abbrev S3072x3072 : Shape := ⟨2, ![3072, 3072]⟩

abbrev nBuf : Space → Nat
  | .hbm => 68
  | .vmem => 0
  | .smem => 0
  | _ => 0

abbrev bufTy : (tb : Table) → Fin (tcTables nBuf tb) → BufTy
  | .hbm, ⟨0, _⟩ => ⟨S3072x1536, .f32⟩
  | .hbm, ⟨1, _⟩ => ⟨S1536x1536, .f32⟩
  | .hbm, ⟨2, _⟩ => ⟨S3072x768, .f32⟩
  | .hbm, ⟨3, _⟩ => ⟨S3072x768, .f32⟩
  | .hbm, ⟨4, _⟩ => ⟨S768x1536, .f32⟩
  | .hbm, ⟨5, _⟩ => ⟨S768x1536, .f32⟩
  | .hbm, ⟨6, _⟩ => ⟨S3072x1536, .f32⟩
  | .hbm, ⟨7, _⟩ => ⟨S_, .f32⟩
  | .hbm, ⟨8, _⟩ => ⟨S3072x768, .f32⟩
  | .hbm, ⟨9, _⟩ => ⟨S3072x768, .f32⟩
  | .hbm, ⟨10, _⟩ => ⟨S3072x768, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S3072x768, .f32⟩
  | .hbm, ⟨15, _⟩ => ⟨S3072x768, .f32⟩
  | .hbm, ⟨16, _⟩ => ⟨S_, .f32⟩
  | .hbm, ⟨17, _⟩ => ⟨S3072x768, .f32⟩
  | .hbm, ⟨18, _⟩ => ⟨S3072x768, .f32⟩
  | .hbm, ⟨19, _⟩ => ⟨S_, .f32⟩
  | .hbm, ⟨20, _⟩ => ⟨S768x1536, .f32⟩
  | .hbm, ⟨21, _⟩ => ⟨S768x1536, .f32⟩
  | .hbm, ⟨22, _⟩ => ⟨S768x1536, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S768x1536, .f32⟩
  | .hbm, ⟨27, _⟩ => ⟨S768x1536, .f32⟩
  | .hbm, ⟨28, _⟩ => ⟨S_, .f32⟩
  | .hbm, ⟨29, _⟩ => ⟨S768x1536, .f32⟩
  | .hbm, ⟨30, _⟩ => ⟨S768x1536, .f32⟩
  | .hbm, ⟨31, _⟩ => ⟨S3072x1536, .f32⟩
  | .hbm, ⟨32, _⟩ => ⟨S_, .f32⟩
  | .hbm, ⟨33, _⟩ => ⟨S3072x1536, .f32⟩
  | .hbm, ⟨34, _⟩ => ⟨S3072x1536, .f32⟩
  | .hbm, ⟨35, _⟩ => ⟨S3072x1536, .f32⟩
  | .hbm, ⟨36, _⟩ => ⟨S3072x1536, .f32⟩
  | .hbm, ⟨37, _⟩ => ⟨S_, .f32⟩
  | .hbm, ⟨38, _⟩ => ⟨S3072x768, .f32⟩
  | .hbm, ⟨39, _⟩ => ⟨S3072x768, .f32⟩
  | .hbm, ⟨40, _⟩ => ⟨S3072x768, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S3072x768, .f32⟩
  | .hbm, ⟨45, _⟩ => ⟨S3072x768, .f32⟩
  | .hbm, ⟨46, _⟩ => ⟨S_, .f32⟩
  | .hbm, ⟨47, _⟩ => ⟨S3072x768, .f32⟩
  | .hbm, ⟨48, _⟩ => ⟨S3072x768, .f32⟩
  | .hbm, ⟨49, _⟩ => ⟨S_, .f32⟩
  | .hbm, ⟨50, _⟩ => ⟨S768x1536, .f32⟩
  | .hbm, ⟨51, _⟩ => ⟨S768x1536, .f32⟩
  | .hbm, ⟨52, _⟩ => ⟨S768x1536, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S768x1536, .f32⟩
  | .hbm, ⟨57, _⟩ => ⟨S768x1536, .f32⟩
  | .hbm, ⟨58, _⟩ => ⟨S_, .f32⟩
  | .hbm, ⟨59, _⟩ => ⟨S768x1536, .f32⟩
  | .hbm, ⟨60, _⟩ => ⟨S768x1536, .f32⟩
  | .hbm, ⟨61, _⟩ => ⟨S3072x1536, .f32⟩
  | .hbm, ⟨62, _⟩ => ⟨S_, .f32⟩
  | .hbm, ⟨63, _⟩ => ⟨S3072x1536, .f32⟩
  | .hbm, ⟨64, _⟩ => ⟨S3072x1536, .f32⟩
  | .hbm, ⟨65, _⟩ => ⟨S3072x1536, .f32⟩
  | .hbm, ⟨66, _⟩ => ⟨S3072x3072, .f32⟩
  | .hbm, ⟨67, _⟩ => ⟨S3072x3072, .bf16⟩
  | _, _ => ⟨S3072x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_cst_1 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_cst_4 : Ref sig .tc := ⟨.hbm, 24, rfl⟩
abbrev main_call3_v0 : Ref sig .tc := ⟨.hbm, 25, rfl⟩
abbrev main_call3_v1 : Ref sig .tc := ⟨.hbm, 26, rfl⟩
abbrev main_call3_v2 : Ref sig .tc := ⟨.hbm, 27, rfl⟩
abbrev main_call3_v3 : Ref sig .tc := ⟨.hbm, 28, rfl⟩
abbrev main_call3_v4 : Ref sig .tc := ⟨.hbm, 29, rfl⟩
abbrev main_v12 : Ref sig .tc := ⟨.hbm, 30, rfl⟩
abbrev main_v13 : Ref sig .tc := ⟨.hbm, 31, rfl⟩
abbrev main_cst_5 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_7 : Ref sig .tc := ⟨.hbm, 41, rfl⟩
abbrev main_cst_8 : Ref sig .tc := ⟨.hbm, 42, rfl⟩
abbrev main_call5_v0 : Ref sig .tc := ⟨.hbm, 43, rfl⟩
abbrev main_call5_v1 : Ref sig .tc := ⟨.hbm, 44, rfl⟩
abbrev main_call5_v2 : Ref sig .tc := ⟨.hbm, 45, rfl⟩
abbrev main_call5_v3 : Ref sig .tc := ⟨.hbm, 46, rfl⟩
abbrev main_call5_v4 : Ref sig .tc := ⟨.hbm, 47, rfl⟩
abbrev main_v21 : Ref sig .tc := ⟨.hbm, 48, rfl⟩
abbrev main_cst_9 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_10 : Ref sig .tc := ⟨.hbm, 53, rfl⟩
abbrev main_cst_11 : Ref sig .tc := ⟨.hbm, 54, rfl⟩
abbrev main_call7_v0 : Ref sig .tc := ⟨.hbm, 55, rfl⟩
abbrev main_call7_v1 : Ref sig .tc := ⟨.hbm, 56, rfl⟩
abbrev main_call7_v2 : Ref sig .tc := ⟨.hbm, 57, rfl⟩
abbrev main_call7_v3 : Ref sig .tc := ⟨.hbm, 58, rfl⟩
abbrev main_call7_v4 : Ref sig .tc := ⟨.hbm, 59, rfl⟩
abbrev main_v25 : Ref sig .tc := ⟨.hbm, 60, rfl⟩
abbrev main_v26 : Ref sig .tc := ⟨.hbm, 61, rfl⟩
abbrev main_cst_12 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩

abbrev nD : Nat := 1
abbrev τ : Topo := Topo.v7x

variable {F : FTy → Type} [FloatOps F]
-- ==== Proof.Protocol.lean ====
/- The exchange protocol of the kernel: the mesh, the pieces of the buffers, what each buffer holds, the semaphore cells
   with their amounts and payloads, and what each device owes. -/
module

public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's ghost algebra: duties named by a `Bool`. -/
abbrev UB : Type := URounds (GSem nD τ sig) Bool
/-- The pipeline's ghost algebra beside the protocol's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The mesh: device `c` is at row `c / 2`, column `c % 2` -/

/-- The neighbour along `y`: the same row, the other column. -/
def yn (c : Dev nD) : Dev nD := ⟨(2 * (c.val / 2) + 1) - c.val % 2, by have : c.val < 4 := c.isLt; show _ < 4; omega⟩
/-- The neighbour along `x`: the other row, the same column. -/
def xn (c : Dev nD) : Dev nD := ⟨(c.val % 2 + 2) - 2 * (c.val / 2), by have : c.val < 4 := c.isLt; show _ < 4; omega⟩

theorem yn_yn (c : Dev nD) : yn (yn c) = c := by revert c; decide
theorem xn_xn (c : Dev nD) : xn (xn c) = c := by revert c; decide
theorem yn_xn (c : Dev nD) : yn (xn c) = xn (yn c) := by revert c; decide

/-- The row of a device. -/
abbrev row (c : Dev nD) : ℕ := c.val / 2

theorem row_lt (c : Dev nD) : row c < 2 := by revert c; decide
theorem row_yn (c : Dev nD) : row (yn c) = row c := by revert c; decide
theorem row_xn (c : Dev nD) : row (xn c) = 1 - row c := by revert c; decide
theorem row_cases (c : Dev nD) : row c = 0 ∨ row c = 1 := by revert c; decide

/-! ## The pieces of the buffers -/

/-- Rows `o` to `o + n` of a matrix. -/
def rowSet (A B o n : ℕ) : Finset (⟨2, ![A, B]⟩ : Shape).Idx :=
  Finset.univ.filter fun i => o ≤ (i 0).val ∧ (i 0).val < o + n
/-- Columns `o` to `o + n` of a matrix. -/
def colSet (A B o n : ℕ) : Finset (⟨2, ![A, B]⟩ : Shape).Idx :=
  Finset.univ.filter fun i => o ≤ (i 1).val ∧ (i 1).val < o + n

theorem mem_rowSet {A B o n : ℕ} {i : (⟨2, ![A, B]⟩ : Shape).Idx} : i ∈ rowSet A B o n ↔ o ≤ (i 0).val ∧ (i 0).val < o + n := by
  simp [rowSet]
theorem mem_colSet {A B o n : ℕ} {i : (⟨2, ![A, B]⟩ : Shape).Idx} : i ∈ colSet A B o n ↔ o ≤ (i 1).val ∧ (i 1).val < o + n := by
  simp [colSet]

/-- A rectangle of whole rows is those rows. -/
theorem rect_rows {A B o o' n : ℕ} (h : o = o') (inb) :
    (Rect.unit (s := (⟨2, ![A, B]⟩ : Shape)) ![o, 0] ![n, B] inb).set = rowSet A B o' n := by
  subst h
  ext i
  have h1 : (i 1).val < B := (i 1).isLt
  rw [Rect.mem_set_unit, mem_rowSet, Fin.forall_fin_two]
  simp only [Matrix.cons_val_zero, Matrix.cons_val_one]
  constructor
  · exact fun h => h.1
  · exact fun h => ⟨h, Nat.zero_le _, by omega⟩

/-- A rectangle of whole columns is those columns. -/
theorem rect_cols {A B o n : ℕ} (inb) :
    (Rect.unit (s := (⟨2, ![A, B]⟩ : Shape)) ![0, o] ![A, n] inb).set = colSet A B o n := by
  ext i
  have h1 : (i 0).val < A := (i 0).isLt
  rw [Rect.mem_set_unit, mem_colSet, Fin.forall_fin_two]
  simp only [Matrix.cons_val_zero, Matrix.cons_val_one]
  constructor
  · exact fun h => h.2
  · exact fun h => ⟨⟨Nat.zero_le _, by omega⟩, h⟩

theorem rows_cut {A B o n k : ℕ} : rowSet A B o (n + k) = rowSet A B o n ∪ rowSet A B (o + n) k := by
  ext i; rw [Finset.mem_union, mem_rowSet, mem_rowSet, mem_rowSet]; omega
theorem rows_disj {A B o n o' k : ℕ} (h : o + n ≤ o' ∨ o' + k ≤ o) : Disjoint (rowSet A B o n) (rowSet A B o' k) := by
  rw [Finset.disjoint_left]; intro i; rw [mem_rowSet, mem_rowSet]; omega
theorem cols_cut {A B o n k : ℕ} : colSet A B o (n + k) = colSet A B o n ∪ colSet A B (o + n) k := by
  ext i; rw [Finset.mem_union, mem_colSet, mem_colSet, mem_colSet]; omega
theorem cols_disj {A B o n o' k : ℕ} (h : o + n ≤ o' ∨ o' + k ≤ o) : Disjoint (colSet A B o n) (colSet A B o' k) := by
  rw [Finset.disjoint_left]; intro i; rw [mem_colSet, mem_colSet]; omega
theorem rows_all {A B : ℕ} : rowSet A B 0 A = Finset.univ := by
  ext i; have : (i 0).val < A := (i 0).isLt; rw [mem_rowSet]; simp; omega
theorem cols_all {A B : ℕ} : colSet A B 0 B = Finset.univ := by
  ext i; have : (i 1).val < B := (i 1).isLt; rw [mem_colSet]; simp; omega

/-- Half `x` of the rows of `B`: the half that row `x` of the mesh exchanges along `y`. -/
abbrev half (x : ℕ) : Finset S768x1536.Idx := rowSet 768 1536 (384 * x) 384
/-- Chunk `i` of half `x`. -/
abbrev chk (x i : ℕ) : Finset S768x1536.Idx := rowSet 768 1536 (384 * x + 128 * i) 128
/-- Chunk `i` of the send buffer. -/
abbrev snd (i : ℕ) : Finset S384x1536.Idx := rowSet 384 1536 (128 * i) 128
/-- A column piece of `A`. -/
abbrev acol (o n : ℕ) : Finset S1536x768.Idx := colSet 1536 768 o n

section Pieces
variable {ℓ : Loc nD τ sig} {q : PosShare TreeShare} {f : Buf (Elt F) ℓ}

omit [FloatOps F] in
/-- A set of elements that is two disjoint ones is held piece by piece. -/
theorem pts_cut {U S T : Finset (Idx ℓ)} (h : U = S ∪ T) (hd : Disjoint S T) :
    (ℓ ↦[U]{q} f : sProp 𝕄) = iprop((ℓ ↦[S]{q} f) ∗ (ℓ ↦[T]{q} f)) := by
  subst h; exact BI.equiv_iff.mp ⟨(pointsTo_union hd).1, (pointsTo_union hd).2⟩
end Pieces

/-! ## What the buffers hold -/

/-- The quantiser on a whole array: scaled by 32, rounded to the nearest even, clipped to ±127, as an int8. -/
def quant {s : Shape} (v : FVec F s .f32) : IVec s 8 :=
  fptosi 8 (minimumf (broadcast s (Scalar.ofBits .f32 0x42FE0000#32 : F .f32))
    (maximumf (broadcast s (Scalar.ofBits .f32 0xC2FE0000#32 : F .f32))
      (roundeven (mulf v (broadcast s (Scalar.ofBits .f32 0x42000000#32 : F .f32))))))

/-- Device `c`'s block of `A`. -/
def A (c : Dev nD) : S1536x768.Idx → Elt F .f32 := m ((c : Thread nD τ).loc main_arg0)
/-- Device `c`'s block of `B`. -/
def B (c : Dev nD) : S768x1536.Idx → Elt F .f32 := m ((c : Thread nD τ).loc main_arg1)
/-- Device `c`'s block of `A`, quantised. -/
def aQ (c : Dev nD) : S1536x768.Idx → Elt F .i8 := quant (A m c)
/-- What device `c` receives of `A`: its `y` neighbour's block, quantised. -/
def aO (c : Dev nD) : S1536x768.Idx → Elt F .i8 := aQ m (yn c)
/-- What device `c` receives of `B`: half `row c` from its `y` neighbour, the other half from its `x` neighbour, which
    had it from its own `y` neighbour. -/
def bO (c : Dev nD) : S768x1536.Idx → Elt F .i8 := fun i =>
  if (i 0).val / 384 = row c then (quant (B m (yn c)) : S768x1536.Idx → Elt F .i8) i else (quant (B m (yn (xn c))) : S768x1536.Idx → Elt F .i8) i
/-- Row `i` of the send buffer is row `384 x + i` of the block of `B`. -/
def lift (c : Dev nD) (i : S384x1536.Idx) : S768x1536.Idx :=
  (Rect.unit (s := S768x1536) ![384 * row c, 0] S384x1536.size (by
    have := row_lt c; intro a; fin_cases a
    · show 384 * row c + 384 ≤ 768; omega
    · show 0 + 1536 ≤ 1536; omega)).emb i
/-- What device `c` sends of `B`: half `row c` of its block, quantised. -/
def bS (c : Dev nD) : S384x1536.Idx → Elt F .i8 := fun i => (quant (B m c) : S768x1536.Idx → Elt F .i8) (lift c i)

/-! ## The cells: cell 0 is the barrier, cell `k` the DMA semaphore `k` -/

/-- The runtime's barrier semaphore. -/
abbrev barS : Sem sig := (SemArray.scalar (sig.barrier 0 rfl) : Sems sig S_).sem

/-- The semaphore of cell `k`. -/
def csem (k : Fin 24) : SemLoc sig := if k = 0 then .reg barS else .dma k
/-- Cell `k` of device `c`. -/
abbrev cell (c : Dev nD) (k : Fin 24) : GSem nD τ sig := ((c : Thread nD τ), csem k)
/-- The cell's number of a semaphore. -/
def kOf : SemLoc sig → Fin 24
  | .reg _ => 0
  | .dma q => q

theorem csem_pos {k : Fin 24} (h : k ≠ 0) : csem k = .dma k := if_neg h
theorem csem_zero : csem 0 = .reg barS := if_pos rfl
theorem kOf_csem (k : Fin 24) : kOf (csem k) = k := by revert k; decide
theorem csem_inj {k k' : Fin 24} (h : csem k = csem k') : k = k' := by rw [← kOf_csem k, h, kOf_csem]
theorem csem_ne_stage (k : Fin 24) : csem k ≠ .dma 0 := by revert k; decide

/-- The credit of a copy of shape `s` and type `e`. -/
abbrev credit (s : Shape) (e : EltTy) : ℕ := sig.dmaCredit .tc (.local .tc .vmem) 1 s e

/-- The units of cell `k`'s duties: one at the barrier, elsewhere the copy's credit. -/
def N : Fin 24 → ℕ
  | 0 => 1
  | 1 | 2 | 3 => credit S128x1536 .f32
  | 4 => credit S384x1536 .f32
  | 5 => credit S1536x768 .f32
  | 6 | 7 | 8 | 9 | 10 | 11 | 12 | 13 | 14 | 15 | 16 | 17 => credit S128x1536 .i8
  | 18 | 21 => credit S1536x384 .i8
  | 19 | 22 => credit S1536x256 .i8
  | _ => credit S1536x128 .i8

theorem N_pos (k : Fin 24) : 0 < N k := by
  fin_cases k <;> first | exact Nat.one_pos | exact sig.dmaCredit_pos _ _ _ _ _ (by decide)

/-- What a waiter of cell `k` waits for. -/
def X (k : Fin 24) : ℕ := if k = 0 then 2 else N k

/-! ## The payloads -/

/-- `b` of device `c` on the elements `S`, at share `q`, with contents `f`. -/
abbrev pts (c : Dev nD) (b : Ref sig .tc) (S : Finset (Idx ((c : Thread nD τ).loc b))) (q : PosShare TreeShare)
    (f : Buf (Elt F) ((c : Thread nD τ).loc b)) : sProp 𝕄 := ((c : Thread nD τ).loc b) ↦[S]{q} f

/-- The same with some contents. -/
abbrev ptsE (c : Dev nD) (b : Ref sig .tc) (S : Finset (Idx ((c : Thread nD τ).loc b))) : sProp 𝕄 :=
  iprop(∃ f : Buf (Elt F) ((c : Thread nD τ).loc b), ((c : Thread nD τ).loc b) ↦[S]{fullShare} f)

/-- Chunk `i` of the local copy of `B` into the kernel's memory: both ends. -/
def inPay (c : Dev nD) (S : Finset S768x1536.Idx) : sProp 𝕄 :=
  iprop(pts c cc0_scratch1 S fullShare (B m c) ∗ pts c main_arg1 S fullShare (B m c))

/-- What cell `k` of device `c` hands over: the barrier the neighbours' landing buffers, every other cell the piece that
    has landed, or the piece that has been read. -/
def pay (c : Dev nD) : Fin 24 → Bool → sProp 𝕄
  | 0, false => iprop(ptsE (yn c) cc0_scratch4 Finset.univ ∗ ptsE (yn c) cc0_scratch5 (half (row c)))
  | 0, true => ptsE (xn c) cc0_scratch5 (half (row c))
  | 1, _ => inPay m c (chk (row c) 0)
  | 2, _ => inPay m c (chk (row c) 1)
  | 3, _ => inPay m c (chk (row c) 2)
  | 4, _ => inPay m c (half (1 - row c))
  | 5, _ => iprop(pts c cc0_scratch0 Finset.univ fullShare (A m c) ∗ pts c main_arg0 Finset.univ fullShare (A m c))
  | 6, _ => pts c cc0_scratch3 (snd 0) fullShare (bS m c)
  | 7, _ => pts c cc0_scratch3 (snd 1) fullShare (bS m c)
  | 8, _ => pts c cc0_scratch3 (snd 2) fullShare (bS m c)
  | 9, _ => pts c cc0_scratch5 (chk (row c) 0) fullShare (bO m c)
  | 10, _ => pts c cc0_scratch5 (chk (row c) 1) fullShare (bO m c)
  | 11, _ => pts c cc0_scratch5 (chk (row c) 2) fullShare (bO m c)
  | 12, _ => pts c cc0_scratch5 (chk (row c) 0) fullShare.right (bO m c)
  | 13, _ => pts c cc0_scratch5 (chk (row c) 1) fullShare.right (bO m c)
  | 14, _ => pts c cc0_scratch5 (chk (row c) 2) fullShare.right (bO m c)
  | 15, _ => pts c cc0_scratch5 (chk (1 - row c) 0) fullShare (bO m c)
  | 16, _ => pts c cc0_scratch5 (chk (1 - row c) 1) fullShare (bO m c)
  | 17, _ => pts c cc0_scratch5 (chk (1 - row c) 2) fullShare (bO m c)
  | 18, _ => pts c cc0_scratch2 (acol 0 384) fullShare (aQ m c)
  | 19, _ => pts c cc0_scratch2 (acol 384 256) fullShare (aQ m c)
  | 20, _ => pts c cc0_scratch2 (acol 640 128) fullShare (aQ m c)
  | 21, _ => pts c cc0_scratch4 (acol 0 384) fullShare (aO m c)
  | 22, _ => pts c cc0_scratch4 (acol 384 256) fullShare (aO m c)
  | _, _ => pts c cc0_scratch4 (acol 640 128) fullShare (aO m c)

instance pay_storable (c : Dev nD) (k : Fin 24) (d : Bool) : BI.Storable (upEmb : UEmb _ 𝕄) (pay m c k d) := by
  unfold pay inPay; split <;> infer_instance

/-! ## The schedule: one round -/

/-- The duties of a cell's only round: two at the barrier, one elsewhere. -/
def dutiesOf (k : Fin 24) : Finset Bool := if k = 0 then Finset.univ else {false}

def sched : Rounds.Schedule (GSem nD τ sig) Bool 𝕄 where
  duties g r := if r = 0 ∧ g.1.2 = .tc ∧ g.2 ≠ .dma 0 then dutiesOf (kOf g.2) else ∅
  unitless _ := False
  amount g _ _ := N (kOf g.2)
  payload g _ d := pay m g.1.1 (kOf g.2) d
  amount_pos g _ _ _ := N_pos _

instance sched_storable (g : GSem nD τ sig) (r : ℕ) (d : Bool) :
    BI.Storable (upEmb : UEmb _ 𝕄) ((sched (F := F) m).payload g r d) := by
  show BI.Storable upEmb (pay m g.1.1 (kOf g.2) d); infer_instance

section Tables
variable (c : Dev nD) (k : Fin 24)

theorem duties_cell : (sched (F := F) m).duties (cell c k) 0 = dutiesOf k := by
  show (if _ then _ else _) = _
  rw [if_pos ⟨rfl, rfl, csem_ne_stage k⟩, kOf_csem]
theorem duties_later (g : GSem nD τ sig) : ∀ r, 1 ≤ r → (sched (F := F) m).duties g r = ∅ :=
  fun r hr => if_neg fun h => by omega
theorem amount_cell (d : Bool) : (sched (F := F) m).amount (cell c k) 0 d = N k := by
  show N (kOf (csem k)) = _; rw [kOf_csem]
theorem payload_cell (d : Bool) : (sched (F := F) m).payload (cell c k) 0 d = pay m c k d := by
  show pay m c (kOf (csem k)) d = _; rw [kOf_csem]
theorem mem_duties (d : Bool) (h : k = 0 ∨ d = false) : d ∈ (sched (F := F) m).duties (cell c k) 0 := by
  rw [duties_cell]; unfold dutiesOf
  rcases h with h | h
  · rw [if_pos h]; exact Finset.mem_univ _
  · subst h; split
    · exact Finset.mem_univ _
    · exact Finset.mem_singleton_self _
theorem expect_cell : (sched (F := F) m).expect (cell c k) 0 = X k := by
  unfold Schedule.expect Schedule.amountOf X
  rw [Finset.sum_congr rfl fun d _ => amount_cell m c k d, duties_cell]; unfold dutiesOf
  by_cases h : k = 0
  · subst h; rfl
  · rw [if_neg h, if_neg h, Finset.sum_singleton]

/-- All that a cell's only round hands over. -/
def payAll : sProp 𝕄 := if k = 0 then iprop(pay m c k false ∗ pay m c k true) else pay m c k false

theorem rest_cell : bigSep ((sched (F := F) m).duties (cell c k) 0 \ ∅) (fun d => (sched (F := F) m).payload (cell c k) 0 d) = payAll m c k := by
  rw [Finset.sdiff_empty, duties_cell, bigSep_congr fun d _ => payload_cell m c k d]
  unfold dutiesOf payAll
  by_cases h : k = 0
  · rw [if_pos h, if_pos h, bigSep_univ_eq_bigSepL [false, true] (by decide) (by decide), bigSepL_cons_cons, bigSepL_singleton]; rfl
  · rw [if_neg h, if_neg h, bigSep_singleton]
end Tables

/-! ## What a device owes, in the reverse of the order in which it pays -/

/-- The cell that due `i` of device `c` pays, its number and its duty. -/
def dueK : ℕ → Fin 24
  | 10 | 9 => 0
  | 8 => 9 | 7 => 10 | 6 => 11
  | 5 => 21 | 4 => 22 | 3 => 23
  | 2 => 15 | 1 => 16 | _ => 17
/-- The device that due `i` of device `c` is owed to. -/
def dueDev (c : Dev nD) : ℕ → Dev nD
  | 10 => yn c | 9 => xn c
  | 8 | 7 | 6 | 5 | 4 | 3 => yn c
  | _ => xn c
/-- The duty that due `i` pays. -/
def dueD (i : ℕ) : Bool := decide (i = 9)

/-- What device `c` owes with `n` dues left. -/
def O (c : Dev nD) (n : ℕ) : CellTallies nD τ sig Unit := ∑ i ∈ Finset.range n, tallyAt (cell (dueDev c i) (dueK i)) () (N (dueK i))

theorem O_zero (c : Dev nD) : O c 0 = 0 := Finset.sum_range_zero _
theorem O_succ (c : Dev nD) (n : ℕ) : O c (n + 1) = O c n + tallyAt (cell (dueDev c n) (dueK n)) () (N (dueK n)) := Finset.sum_range_succ _ _

/-! ## The levels -/

def L (g : GSem nD τ sig) : Finset Unit := if g.1.2 = .tc then {()} else ∅
/-- The barrier below the first landing of `B`, that below all other landings; all else at the bottom. -/
def lvK : Fin 24 → ℕ
  | 0 => 1
  | 9 | 10 | 11 => 2
  | 15 | 16 | 17 | 21 | 22 | 23 => 3
  | _ => 0
def lv (g : GSem nD τ sig) (_ : Unit) : ℕ := if g.2 = .dma 0 then 0 else lvK (kOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Fin 24) (u : Unit) : lv (cell c k) u = lvK k := by
  unfold lv; rw [if_neg (csem_ne_stage k)]; show lvK (kOf (csem k)) = _; rw [kOf_csem]

theorem O_pos {c : Dev nD} {n : ℕ} {g : GSem nD τ sig} {u : Unit} (h : 0 < O c n g u) :
    ∃ i < n, g = cell (dueDev c i) (dueK i) := by
  induction n with
  | zero => rw [O_zero] at h; exact absurd h (Nat.lt_irrefl 0)
  | succ n ih =>
    rw [O_succ, Pi.add_apply, Finsupp.add_apply, tallyAt_apply] at h
    by_cases hc : g = cell (dueDev c n) (dueK n) ∧ u = ()
    · exact ⟨n, Nat.lt_succ_self n, hc.1⟩
    · rw [if_neg hc, Nat.add_zero] at h
      obtain ⟨i, hi, hg⟩ := ih h
      exact ⟨i, Nat.lt_succ_of_lt hi, hg⟩

/-- A device may wait on a semaphore below everything it still owes. -/
theorem mayWait {c : Dev nD} {n : ℕ} {sm : SemLoc sig} (h : ∀ i < n, lv ((c : Thread nD τ), sm) () < lvK (dueK i)) :
    (levAts L lv : sProp 𝕄) ⊢ MayWait (c : Thread nD τ) sm () (O c n) :=
  MayOwe.of_cut (L := L) (lev := lv) (lv ((c : Thread nD τ), sm) ())
    (fun p hp => by rw [Finset.mem_singleton.mp hp, L_tc]; exact Finset.mem_singleton_self _)
    (fun g u hg => by obtain ⟨i, hi, rfl⟩ := O_pos hg; exact Finset.mem_singleton_self _)
    (fun p hp => by rw [Finset.mem_singleton.mp hp])
    (fun g u hg => by obtain ⟨i, hi, rfl⟩ := O_pos hg; rw [lv_cell]; exact h i hi)

end Cert.Exchange

end
-- ==== Proof.State.lean ====
/- A device's ghost state, counted by the waits it has done, the copies it has issued and the dues it has left, and the steps of the
   kernel on it: a wait, a copy within the device, a remote copy, a signal. -/
module

public import proofs.«01_k».proof.Proof.Protocol

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The kernel's steps on device `c`, to the postcondition `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The order of the waits and of the copies that credit an own cell -/

/-- The place of cell `k`'s wait among the device's waits. -/
def wOrd : Fin 24 → ℕ
  | 0 => 0 | 1 => 1 | 2 => 2 | 3 => 3 | 5 => 4 | 4 => 5 | 9 => 6 | 10 => 7 | 11 => 8 | 15 => 9 | 16 => 10 | 17 => 11
  | 21 => 12 | 22 => 13 | 23 => 14 | 6 => 15 | 12 => 16 | 7 => 17 | 13 => 18 | 8 => 19 | 14 => 20 | 18 => 21 | 19 => 22
  | _ => 23
/-- The place, from 1, of the device's own copy onto cell `k` among its copies; 0 where a neighbour pays the cell. -/
def iOrd : Fin 24 → ℕ
  | 1 => 1 | 2 => 2 | 3 => 3 | 4 => 4 | 5 => 5 | 6 => 6 | 7 => 7 | 8 => 8 | 18 => 9 | 19 => 10 | 20 => 11
  | 12 => 12 | 13 => 13 | 14 => 14
  | _ => 0

theorem wOrd_inj : ∀ k k' : Fin 24, wOrd k = wOrd k' → k = k' := by decide
theorem iOrd_inj : ∀ k k' : Fin 24, 0 < iOrd k → iOrd k = iOrd k' → k = k' := by decide
theorem iOrd_zero : iOrd 0 = 0 := by decide
theorem wOrd_lt : ∀ k : Fin 24, wOrd k < 24 := by decide
theorem iOrd_lt : ∀ k : Fin 24, iOrd k < 15 := by decide

/-! ## The device's ghost state -/

/-- What can be used again and again: every cell's invariant, that its round is open, and the levels. -/
def ctx (K : Dev nD × Fin 24 → ℕ) : sProp 𝕄 :=
  iprop((bigSep Finset.univ fun p : Dev nD × Fin 24 =>
      iprop(cellInv ER (sched m) (K p) (cell p.1 p.2) ∗ reached ER (cell p.1 p.2) 0)) ∗ levAts L lv)

instance ctx_persistent (K : Dev nD × Fin 24 → ℕ) : BI.Persistent (ctx m K) := by unfold ctx; infer_instance

theorem ctx_cell (K : Dev nD × Fin 24 → ℕ) (c : Dev nD) (k : Fin 24) :
    ctx m K ⊢ iprop(cellInv ER (sched m) (K (c, k)) (cell c k) ∗ reached ER (cell c k) 0) :=
  sep_elim_left.trans (bigSep_elim (Finset.mem_univ (c, k)))
theorem ctx_lev (K : Dev nD × Fin 24 → ℕ) : ctx m K ⊢ levAts L lv := sep_elim_right

/-- With `j` of its copies issued, device `c` holds for its cell `k` the credit to wait with, or the token to pay with. -/
def held (c : Dev nD) (j : ℕ) (k : Fin 24) : sProp 𝕄 :=
  if iOrd k < j then cred (tallyAt (cell c k) () (X k)) else dutyTok ER (cell c k) 0 false
/-- With `n` of its waits done, device `c` holds the counter of its cell `k` closed at zero, or its place in the cell. -/
def cellAt (c : Dev nD) (n j : ℕ) (k : Fin 24) : sProp 𝕄 :=
  if wOrd k < n then semVal (cell c k) 0 else iprop(atPos ER (cell c k) 0 ∅ 0 ∗ held c j k)
def cells (c : Dev nD) (n j : ℕ) : sProp 𝕄 := bigSep Finset.univ (cellAt (F := F) c n j)
/-- With `d` dues left, what device `c` owes and the tokens it pays with. -/
def dues (c : Dev nD) (d : ℕ) : sProp 𝕄 :=
  iprop((∃ W : Waits sig Unit, owes (c : Thread nD τ) (O c d) W)
    ∗ bigSep (Finset.range d) fun i => dutyTok ER (cell (dueDev c i) (dueK i)) 0 (dueD i))

/-- The ghost state after `n` waits and `j - 1` copies onto own cells, with `d` dues left. -/
def St (K : Dev nD × Fin 24 → ℕ) (c : Dev nD) (n j d : ℕ) : sProp 𝕄 := iprop(ctx m K ∗ cells c n j ∗ dues c d)

theorem cells_wait {c : Dev nD} {n j : ℕ} {k : Fin 24} (hk : wOrd k = n) (hj : iOrd k < j) :
    (cells c n j : sProp 𝕄) = iprop((atPos ER (cell c k) 0 ∅ 0 ∗ cred (tallyAt (cell c k) () (X k)))
      ∗ bigSep (Finset.univ.erase k) (cellAt (F := F) c (n + 1) j)) := by
  unfold cells
  rw [bigSep_univ_at _ k]
  congr 1
  · unfold cellAt held; rw [if_neg (by omega), if_pos hj]
  · refine bigSep_congr fun k' hk' => ?_
    have hne : k' ≠ k := (Finset.mem_erase.mp hk').1
    have : wOrd k' ≠ n := fun h => hne (wOrd_inj _ _ (h.trans hk.symm))
    unfold cellAt
    by_cases h : wOrd k' < n
    · rw [if_pos h, if_pos (by omega)]
    · rw [if_neg h, if_neg (by omega)]

theorem cells_waited {c : Dev nD} {n j : ℕ} {k : Fin 24} (hk : wOrd k = n) :
    (cells c (n + 1) j : sProp 𝕄) = iprop(semVal (cell c k) 0 ∗ bigSep (Finset.univ.erase k) (cellAt (F := F) c (n + 1) j)) := by
  unfold cells
  rw [bigSep_univ_at _ k]
  congr 1
  unfold cellAt; rw [if_pos (by omega)]

theorem cells_issue {c : Dev nD} {n j : ℕ} {k : Fin 24} (hk : iOrd k = j) (hj : 0 < j) (hn : n ≤ wOrd k) :
    (cells c n j : sProp 𝕄) = iprop((atPos ER (cell c k) 0 ∅ 0 ∗ dutyTok ER (cell c k) 0 false)
      ∗ bigSep (Finset.univ.erase k) (cellAt (F := F) c n (j + 1))) := by
  unfold cells
  rw [bigSep_univ_at _ k]
  congr 1
  · unfold cellAt held; rw [if_neg (by omega), if_neg (by omega)]
  · refine bigSep_congr fun k' hk' => ?_
    have hne : k' ≠ k := (Finset.mem_erase.mp hk').1
    have : iOrd k' ≠ j := fun h => hne (iOrd_inj _ _ (by omega) (h.trans hk.symm))
    unfold cellAt held
    by_cases h : iOrd k' < j
    · rw [if_pos h, if_pos (show iOrd k' < j + 1 by omega)]
    · rw [if_neg h, if_neg (show ¬ iOrd k' < j + 1 by omega)]

theorem cells_issued {c : Dev nD} {n j : ℕ} {k : Fin 24} (hk : iOrd k = j) (hn : n ≤ wOrd k) :
    (cells c n (j + 1) : sProp 𝕄) = iprop((atPos ER (cell c k) 0 ∅ 0 ∗ cred (tallyAt (cell c k) () (X k)))
      ∗ bigSep (Finset.univ.erase k) (cellAt (F := F) c n (j + 1))) := by
  unfold cells
  rw [bigSep_univ_at _ k]
  congr 1
  unfold cellAt held; rw [if_neg (by omega), if_pos (by omega)]

theorem dues_succ (c : Dev nD) (d : ℕ) :
    (bigSep (Finset.range (d + 1)) fun i => (dutyTok ER (cell (dueDev c i) (dueK i)) 0 (dueD i) : sProp 𝕄))
      = iprop((bigSep (Finset.range d) fun i => (dutyTok ER (cell (dueDev c i) (dueK i)) 0 (dueD i) : sProp 𝕄))
        ∗ dutyTok ER (cell (dueDev c d) (dueK d)) 0 (dueD d)) := by
  rw [Finset.range_add_one, bigSep_insert Finset.notMem_range_self]
  exact BI.equiv_iff.mp ⟨BI.sep_comm, BI.sep_comm⟩

theorem X_pos {k : Fin 24} (h : k ≠ 0) : X k = N k := if_neg h

/-! ## The steps -/

variable {K : Dev nD × Fin 24 → ℕ}

/-- A wait on the device's own cell `k`: what the cell hands over, and the cell closed. -/
theorem wp_take {α : Type} {Q : α → sProp 𝕄} (c : Dev nD) (k : Fin 24) {n j d k' : ℕ} {w : TpuEff nD τ sig (Elt F) Λ₀ .tc PUnit} {sm : SemLoc sig}
    {kont : PUnit → Prog (TpuEff nD τ sig (Elt F) Λ₀ .tc) α}
    (hw : ∀ K : PUnit → sProp 𝕄, wpE (defs₀ (F := F)) 𝒱₀ (c : Thread nD τ) none Set.univ w K = waitSpec (c : Thread nD τ) Set.univ sm k' K)
    (hsm : sm = csem k) (hk' : k' = X k) (hk : wOrd k = n) (hj : iOrd k < j) (hd : ∀ i < d, lvK k < lvK (dueK i)) :
    St m K c n j d ⊢ iprop(((St m K c (n + 1) j d ∗ payAll m c k) -∗ WP c (kont ⟨⟩) Q) -∗ WP c (.op w kont) Q) := by
  subst hsm hk'
  unfold St
  rw [cells_wait hk hj, cells_waited hk]
  unfold dues
  iintro ⟨#Hctx, ⟨⟨Hat, Hcr⟩, Hrest⟩, ⟨%W, HO⟩, Htoks⟩ Hk
  ihave #Hcell := (ctx_cell m K c k) $$ Hctx
  icases Hcell with ⟨#Hinv, #Hr⟩
  iapply (Rounds.wp_wait_rest_token 𝒱₀ ER (sched m) (c : Thread nD τ) none (κ := K (c, k)) hw (Set.mem_univ _) () (O := O c d) (W := W)
    (R := 0) (m := 0) (T := ∅) (by rw [expect_cell, Nat.zero_add])) $$ [Hcr HO Hat]
  · isplitr; · iexact Hinv
    isplitl [Hcr]; · iexact Hcr
    isplitl [HO]; · iexact HO
    isplitr
    · iapply (mayWait (c := c) (n := d) (sm := csem k) (fun i hi => by rw [lv_cell]; exact hd i hi))
      iapply (ctx_lev m K); iexact Hctx
    iexact Hat
  iintro ⟨HO, Hat, -, Hpay⟩
  ihave Hpay := (Entails.of_eq (rest_cell m c k)) $$ Hpay
  imod (Rounds.cell_close ER (sched m) (Set.mem_univ (K (c, k))) (fun h => h) (R := 0 + 1) (duties_later m (cell c k))) $$ [Hat] with Hz
  · isplitr; · iexact Hinv
    iexact Hat
  iapply Hk
  isplitr [Hpay]
  · isplitr; · iexact Hctx
    isplitl [Hz Hrest]
    · isplitl [Hz] <;> iassumption
    isplitl [HO]
    · iexists _; iexact HO
    iexact Htoks
  iexact Hpay

/-- A landing at the elements `D` of a buffer, of contents that are `g` read through the destination's view. -/
theorem landed_pts {d : Thread nD τ} {sp : Space} {s : Shape} {e : EltTy} {dst : Memref sig d.2.kind sp s e}
    {D : Finset (Idx (dst.view.loc d))} (hD : dst.view.set = D) {fd g : Buf (Elt F) (dst.view.loc d)} {w : Vec F s e}
    (hval : dst.view.read (Elt F) g = w) :
    ((dst.view.loc d ↦[dst.view.set]{fullShare} (dst.view.write (Elt F) fd w Finset.univ)) : sProp 𝕄)
      = (dst.view.loc d ↦[D]{fullShare} g) := by
  subst hval hD
  refine pointsTo_congr fun i hi => ?_
  rw [View.write_read_eq_piecewise]
  exact Finset.piecewise_eq_of_mem _ _ _ hi

/-- A copy within the device onto its cell `k`. -/
theorem wp_fetch {α : Type} {Q : α → sProp 𝕄} (c : Dev nD) (k : Fin 24) {n j d : ℕ} {sp sp' : Space} {s : Shape} {e : EltTy}
    {src : Memref sig .tc sp s e} {dst : Memref sig .tc sp' s e} {sem : SemLoc sig}
    {hsrc : src.view.WordExact} {hdst : dst.view.WordExact} {hsem : DmaTarget.Typed sp sem (.here dst : DmaTarget nD τ sig (Dev.tc c : Thread nD τ).2 sp' s e)}
    {kont : PUnit → Prog (TpuEff nD τ sig (Elt F) Λ₀ .tc) α}
    (hsm : sem = csem k) (hN : dst.view.amount sem = N k) (hk : iOrd k = j) (hj : 0 < j) (hn : n ≤ wOrd k)
    (S : Finset (Idx (src.view.loc (c : Thread nD τ)))) (D : Finset (Idx (dst.view.loc (c : Thread nD τ))))
    (hS : src.view.set = S) (hD : dst.view.set = D)
    (fs : Buf (Elt F) (src.view.loc (c : Thread nD τ))) (g fd : Buf (Elt F) (dst.view.loc (c : Thread nD τ)))
    (hval : dst.view.read (Elt F) g = src.view.read (Elt F) fs)
    (hpay : pay m c k false = iprop((dst.view.loc (c : Thread nD τ) ↦[D]{fullShare} g) ∗ (src.view.loc (c : Thread nD τ) ↦[S]{fullShare} fs))) :
    iprop(St m K c n j d ∗ (src.view.loc (c : Thread nD τ) ↦[S]{fullShare} fs) ∗ (dst.view.loc (c : Thread nD τ) ↦[D]{fullShare} fd))
      ⊢ iprop((St m K c n (j + 1) d -∗ WP c (kont ⟨⟩) Q) -∗ WP c (.op (.enqueueDma src (.here dst) sem hsrc hdst hsem) kont) Q) := by
  subst hsm hS hD
  have h0 : k ≠ 0 := fun h => by rw [h, iOrd_zero] at hk; omega
  unfold St
  rw [cells_issue hk hj hn, cells_issued hk hn, X_pos h0]
  iintro ⟨⟨#Hctx, ⟨⟨Hat, Htok⟩, Hrest⟩, Hdues⟩, Hs, Hd⟩ Hk
  ihave #Hcell := (ctx_cell m K c k) $$ Hctx
  icases Hcell with ⟨#Hinv, #Hr⟩
  iapply (Rounds.wp_copy_pointsTo 𝒱₀ ER (sched m) (c : Thread nD τ) none (κ := K (c, k)) (r := 0) (d := false) (fd := fd) (fs := fs)
    (mem_duties m c k false (.inr rfl)) () (N k) hN (amount_cell m c k false)
    (by rw [payload_cell, hpay, landed_pts rfl hval])) $$ [Hs Hd Htok]
  · isplitr; · iexact Hinv
    isplitl [Hs]; · iexact Hs
    isplitl [Hd]; · iexact Hd
    isplitl [Htok]; · iexact Htok
    iexact Hr
  iintro Hcr
  iapply Hk
  isplitr; · iexact Hctx
  isplitr [Hdues]
  · isplitr [Hrest]
    · isplitl [Hat] <;> iassumption
    iexact Hrest
  iexact Hdues

/-- A remote copy: it pays due `d` at the neighbour and credits the device's own cell `ks`. -/
theorem wp_put {α : Type} {Q : α → sProp 𝕄} (c : Dev nD) (ks : Fin 24) {n j d : ℕ} {e' : Dev nD} (he : e' = dueDev c d) {sp sp' : Space} {s : Shape} {e : EltTy}
    {src : Memref sig .tc sp s e} {dst : Memref sig .tc sp' s e} {sS sem : SemLoc sig} {hsc : dst.view.ref.isScScratch = false}
    {hsrc : src.view.WordExact} {hdst : dst.view.WordExact} {hsem : DmaTarget.Typed sp sem (.remote (Dev.tc e' : Thread nD τ) dst sS hsc)}
    {kont : PUnit → Prog (TpuEff nD τ sig (Elt F) Λ₀ .tc) α}
    (hsS : sS = csem ks) (hsm : sem = csem (dueK d)) (hN : dst.view.amount sem = N ks) (hN' : N ks = N (dueK d))
    (hk : iOrd ks = j) (hj : 0 < j) (hn : n ≤ wOrd ks) (hdd : dueD d = false)
    (S : Finset (Idx (src.view.loc (c : Thread nD τ)))) (D : Finset (Idx (dst.view.loc (dueDev c d : Thread nD τ))))
    (hS : src.view.set = S) (hD : dst.view.set = D) (q : PosShare TreeShare)
    (fs : Buf (Elt F) (src.view.loc (c : Thread nD τ))) (g fd : Buf (Elt F) (dst.view.loc (dueDev c d : Thread nD τ)))
    (hval : dst.view.read (Elt F) g = src.view.read (Elt F) fs)
    (hpay : pay m c ks false = (src.view.loc (c : Thread nD τ) ↦[S]{q} fs))
    (hpay' : pay m (dueDev c d) (dueK d) false = (dst.view.loc (dueDev c d : Thread nD τ) ↦[D]{fullShare} g)) :
    iprop(St m K c n j (d + 1) ∗ (src.view.loc (c : Thread nD τ) ↦[S]{q} fs) ∗ (dst.view.loc (dueDev c d : Thread nD τ) ↦[D]{fullShare} fd))
      ⊢ iprop((St m K c n (j + 1) d -∗ WP c (kont ⟨⟩) Q)
        -∗ WP c (.op (.enqueueDma src (.remote (Dev.tc e' : Thread nD τ) dst sS hsc) sem hsrc hdst hsem) kont) Q) := by
  subst he hsS hsm hS hD
  have h0 : ks ≠ 0 := fun h => by rw [h, iOrd_zero] at hk; omega
  unfold St
  rw [cells_issue hk hj hn, cells_issued hk hn, X_pos h0]
  unfold dues
  rw [dues_succ, hdd]
  iintro ⟨⟨#Hctx, ⟨⟨Hat, Htok⟩, Hrest⟩, ⟨%W, HO⟩, Htoks, Htok'⟩, Hs, Hd⟩ Hk
  ihave #Hcell := (ctx_cell m K c ks) $$ Hctx
  icases Hcell with ⟨#Hinv, #Hr⟩
  ihave #Hcell' := (ctx_cell m K (dueDev c d) (dueK d)) $$ Hctx
  icases Hcell' with ⟨#Hinv', #Hr'⟩
  iapply (Rounds.wp_send_pointsTo 𝒱₀ ER (sched m) (c : Thread nD τ) none (κ₁ := K (c, ks)) (κ₂ := K (dueDev c d, dueK d))
    (r₁ := 0) (r₂ := 0) (d₁ := false) (d₂ := false) (fd := fd) (fs := fs)
    (mem_duties m c ks false (.inr rfl)) (mem_duties m (dueDev c d) (dueK d) false (.inr rfl)) () () (N ks) hN
    (amount_cell m c ks false) ((amount_cell m (dueDev c d) (dueK d) false).trans hN'.symm) (O₀ := O c (d + 1)) (O c d) (by rw [hN']; exact O_succ c d) (W := W)
    (by rw [payload_cell, hpay]) (by rw [payload_cell, hpay', landed_pts rfl hval])) $$ [Hs Hd HO Htok Htok']
  · isplitr; · iexact Hinv
    isplitr; · iexact Hinv'
    isplitl [Hs]; · iexact Hs
    isplitl [Hd]; · iexact Hd
    isplitl [HO]; · iexact HO
    isplitl [Htok]; · iexact Htok
    isplitr; · iexact Hr
    isplitl [Htok']; · iexact Htok'
    iexact Hr'
  iintro ⟨Hcr, HO⟩
  iapply Hk
  isplitr; · iexact Hctx
  isplitr [HO Htoks]
  · isplitr [Hrest]
    · isplitl [Hat] <;> iassumption
    iexact Hrest
  isplitl [HO]
  · iexists W; iexact HO
  iexact Htoks

/-- A signal of one unit to a neighbour's barrier cell: it pays due `d`. -/
theorem wp_tell {α : Type} {Q : α → sProp 𝕄} (c : Dev nD) {n j d : ℕ} {e' : Dev nD} (he : e' = dueDev c d) {sem : Sem sig} {k' : ℕ}
    {kont : PUnit → Prog (TpuEff nD τ sig (Elt F) Λ₀ .tc) α}
    (hsm : sem = barS) (hk' : k' = 1) (hdk : dueK d = 0) :
    iprop(St m K c n j (d + 1) ∗ pay m (dueDev c d) 0 (dueD d))
      ⊢ iprop((St m K c n j d -∗ WP c (kont ⟨⟩) Q) -∗ WP c (.op (.semSignal (Dev.tc e' : Thread nD τ) sem k') kont) Q) := by
  subst he hsm hk'
  unfold St dues
  rw [dues_succ, hdk]
  iintro ⟨⟨#Hctx, Hcells, ⟨%W, HO⟩, Htoks, Htok⟩, Hp⟩ Hk
  ihave #Hcell := (ctx_cell m K (dueDev c d) 0) $$ Hctx
  icases Hcell with ⟨#Hinv, #Hr⟩
  iapply (Rounds.wp_signal 𝒱₀ ER (sched m) (c : Thread nD τ) none (dst := (dueDev c d : Thread nD τ)) (sem := barS) (κ := K (dueDev c d, 0)) (r := 0)
    (d := dueD d) (mem_duties m (dueDev c d) 0 (dueD d) (.inl rfl)) (amount_cell m (dueDev c d) 0 (dueD d)) () (O₀ := O c (d + 1)) (O c d)
    (by rw [O_succ, hdk]; rfl) (W := W)) $$ [HO Htok Hp]
  · isplitr; · iexact Hinv
    isplitl [HO]; · iexact HO
    isplitl [Htok]; · iexact Htok
    isplitl [Hp]
    · ihave Hp := (Entails.of_eq (show pay m (dueDev c d) 0 (dueD d) = (sched m).payload ((dueDev c d : Thread nD τ), .reg barS) 0 (dueD d)
        from (payload_cell m (dueDev c d) 0 (dueD d)).symm)) $$ Hp; iexact Hp
    iexact Hr
  iintro HO
  iapply Hk
  isplitr; · iexact Hctx
  isplitl [Hcells]; · iexact Hcells
  isplitl [HO]
  · iexists W; iexact HO
  iexact Htoks

end Cert.Exchange

end
-- ==== Proof.Steps.lean ====
/- The kernel's steps on its own buffers: stores, and the copies within a device and to its neighbours, with what each carries. -/
module

public import proofs.«01_k».proof.Proof.State

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Loads and stores -/

/-- A store that makes the elements `S` of a buffer those of `g`. -/
theorem wp_fill (c : Dev nD) {α : Type} {Q : α → sProp 𝕄} {cs : CoreSpace} {s : Shape} {e : EltTy} {M : Memref sig .tc cs s e} {r : Rect s}
    {w : r.shape.Idx → Elt F e} {hx : (M.access r).Stores Finset.univ} {hm : Finset.univ = Finset.univ ∨ ∀ a, r.stride a = 1}
    {kont : PUnit → Prog (TpuEff nD τ sig (Elt F) Λ₀ .tc) α}
    (S : Finset (Idx ((M.access r).loc (c : Thread nD τ)))) (hS : (M.access r).set = S) (f g : Buf (Elt F) ((M.access r).loc (c : Thread nD τ)))
    (hval : (M.access r).read (Elt F) g = w) :
    ((M.access r).loc (c : Thread nD τ) ↦[S]{fullShare} f)
      ⊢ iprop((((M.access r).loc (c : Thread nD τ) ↦[S]{fullShare} g) -∗ WP c (kont ⟨⟩) Q) -∗ WP c (.op (.store M r w Finset.univ hx hm) kont) Q) := by
  subst hS hval
  iintro H Hk
  iapply (wp_store 𝒱₀ (c : Thread nD τ) none Set.univ (m := M) (r := r) (Mk := Finset.univ) (S := (M.access r).set) (f := f) (Finset.Subset.refl _)) $$ H
  iintro H
  iapply Hk
  ihave H := (Entails.of_eq (pointsTo_congr (g := g) (fun i hi => by
    rw [View.write_read_eq_piecewise]; exact Finset.piecewise_eq_of_mem _ _ _ hi))) $$ H
  iexact H

/-- The elements of a slice of a whole buffer. -/
theorem set_slice {b : Ref sig .tc} {r : Rect b.ty.shape} {S : Finset b.ty.shape.Idx} (h : r.set = S) : ((View.whole b).slice r).set = S :=
  (View.set_slice_whole b r).trans h

variable {K : Dev nD × Fin 24 → ℕ}

/-! ## The copies -/

theorem amount_csem {sp : Space} {s : Shape} {e : EltTy} (v : View sig .tc sp s e) {k : Fin 24} (h : k ≠ 0) : v.amount (csem k) = v.dmaCredit := by
  rw [csem_pos h]
theorem ne_of_iOrd {k : Fin 24} {j : ℕ} (hk : iOrd k = j) (hj : 0 < j) : k ≠ 0 := fun h => by rw [h, iOrd_zero] at hk; omega

/-- The copy of the rows `o` to `o + len` of the block of `B` into the kernel's memory. -/
theorem fetch_B (c : Dev nD) (k : Fin 24) {α : Type} {Q : α → sProp 𝕄} {n j d : ℕ} (o len : ℕ) {inb inb' : _} {hr hr'} {hsrc hdst hsem}
    {kont : PUnit → Prog (TpuEff nD τ sig (Elt F) Λ₀ .tc) α}
    (S : Finset S768x1536.Idx) (hS : ∀ inb, (Rect.unit (s := S768x1536) ![o, 0] ![len, 1536] inb).set = S)
    (hN : credit ⟨2, ![len, 1536]⟩ .f32 = N k) (hk : iOrd k = j) (hj : 0 < j) (hn : n ≤ wOrd k)
    (hpay : pay m c k false = inPay m c S) (f : Buf (Elt F) ((c : Thread nD τ).loc cc0_scratch1)) :
    iprop(St m K c n j d ∗ pts c main_arg1 S fullShare (B m c) ∗ pts c cc0_scratch1 S fullShare f)
      ⊢ iprop((St m K c n (j + 1) d -∗ WP c (kont ⟨⟩) Q)
        -∗ WP c (.op (.enqueueDma ((Memref.whole main_arg1).slice (Rect.unit (s := S768x1536) ![o, 0] ![len, 1536] inb) hr)
            (.here ((Memref.whole cc0_scratch1).slice (Rect.unit (s := S768x1536) ![o, 0] ![len, 1536] inb') hr')) (csem k) hsrc hdst hsem) kont) Q) :=
  wp_fetch m c k (src := (Memref.whole main_arg1).slice (Rect.unit (s := S768x1536) ![o, 0] ![len, 1536] inb) hr) (dst := (Memref.whole cc0_scratch1).slice (Rect.unit (s := S768x1536) ![o, 0] ![len, 1536] inb') hr') rfl ((amount_csem _ (ne_of_iOrd hk hj)).trans hN) hk hj hn S S (set_slice (b := main_arg1) (hS _)) (set_slice (b := cc0_scratch1) (hS _)) (B m c) (B m c) f rfl hpay

/-- The copy of the block of `A` into the kernel's memory. -/
theorem fetch_A (c : Dev nD) {α : Type} {Q : α → sProp 𝕄} {n j d : ℕ} {hsrc hdst hsem}
    {kont : PUnit → Prog (TpuEff nD τ sig (Elt F) Λ₀ .tc) α}
    (hj : j = 5) (hn : n ≤ 4) (f : Buf (Elt F) ((c : Thread nD τ).loc cc0_scratch0)) :
    iprop(St m K c n j d ∗ pts c main_arg0 Finset.univ fullShare (A m c) ∗ pts c cc0_scratch0 Finset.univ fullShare f)
      ⊢ iprop((St m K c n (j + 1) d -∗ WP c (kont ⟨⟩) Q)
        -∗ WP c (.op (.enqueueDma (Memref.whole main_arg0) (.here (Memref.whole cc0_scratch0)) (csem 5) hsrc hdst hsem) kont) Q) := by
  subst hj
  exact wp_fetch m c 5 (src := Memref.whole main_arg0) (dst := Memref.whole cc0_scratch0) rfl ((amount_csem _ (by decide)).trans rfl) rfl (by decide) hn Finset.univ Finset.univ (View.set_whole _) (View.set_whole _) (A m c) (A m c) f rfl rfl

/-! ## What the copies carry -/

theorem div_half {x i o v : ℕ} (ho : o = 384 * x + 128 * i) (hi : i < 3) (hv : v < 128) : (o + 1 * v) / 384 = x := by omega

/-- Rows `o` to `o + 128` of what the `y` neighbour receives of `B` are rows `128 i` to `128 i + 128` of what is sent. -/
theorem read_bS (c : Dev nD) {o i : ℕ} (ho : o = 384 * row c + 128 * i) (hi : i < 3) {inb inb'} :
    (fun x => bO m (yn c) ((Rect.unit (s := S768x1536) ![o, 0] ![128, 1536] inb).emb x))
      = fun x => bS m c ((Rect.unit (s := S384x1536) ![128 * i, 0] ![128, 1536] inb').emb x) := by
  funext x
  have hx : (x 0).val < 128 := (x 0).isLt
  unfold bO bS
  rw [if_pos (by rw [row_yn]; exact div_half ho hi hx), yn_yn]
  congr 1
  funext a
  refine Fin.ext ?_
  fin_cases a
  · show o + 1 * (x 0).val = 384 * row c + 1 * (128 * i + 1 * (x 0).val); omega
  · show 0 + 1 * (x 1).val = 0 + 1 * (0 + 1 * (x 1).val); omega

/-- What is sent is the quantised chunk of the block. -/
theorem read_bS' (c : Dev nD) {o i : ℕ} (ho : o = 384 * row c + 128 * i) (hi : i < 3) {inb inb'} :
    (fun x => bS m c ((Rect.unit (s := S384x1536) ![128 * i, 0] ![128, 1536] inb').emb x))
      = quant (s := ⟨2, ![128, 1536]⟩) (fun x => B m c ((Rect.unit (s := S768x1536) ![o, 0] ![128, 1536] inb).emb x)) := by
  rw [← read_bS m c ho hi (inb := inb)]
  funext x
  have hx : (x 0).val < 128 := (x 0).isLt
  unfold bO
  rw [if_pos (by rw [row_yn]; exact div_half ho hi hx), yn_yn]
  rfl

/-- Half `row c` of what the `x` neighbour receives of `B` is what device `c` has there. -/
theorem read_bO (c : Dev nD) {o i : ℕ} (ho : o = 384 * row c + 128 * i) (hi : i < 3) {inb inb'} :
    (fun x => bO m (xn c) ((Rect.unit (s := S768x1536) ![o, 0] ![128, 1536] inb).emb x))
      = fun x => bO m c ((Rect.unit (s := S768x1536) ![o, 0] ![128, 1536] inb').emb x) := by
  funext x
  have hx : (x 0).val < 128 := (x 0).isLt
  have h := row_lt c
  unfold bO
  rw [if_neg (by rw [row_xn]; exact fun h' => by have := (div_half ho hi hx).symm.trans h'; omega), xn_xn]
  exact (if_pos (div_half ho hi hx)).symm

/-- Quantising chunk `i` of the block of `B` into the send buffer, and sending it to the `y` neighbour. -/
theorem quant_send (c : Dev nD) (ks : Fin 24) {α : Type} {Q : α → sProp 𝕄} {n j d : ℕ} (i o os : ℕ) (e' : Dev nD) (p : Vec F ⟨2, ![128, 1536]⟩ .f32 → Vec F ⟨2, ![128, 1536]⟩ .i8)
    {inb inb₂ inb₃ inb₄ inb₅ : _} {hr₄ hr₅} {hl hl₂ hst hm hsc hsrc hdst hsem}
    {kont : PUnit → Prog (TpuEff nD τ sig (Elt F) Λ₀ .tc) α}
    (hp : ∀ v, p v = quant (F := F) v) (he : e' = yn c) (ho : o = 384 * row c + 128 * i) (hos : os = 128 * i) (hi : i < 3)
    (hN : credit ⟨2, ![128, 1536]⟩ .i8 = N ks) (hN' : N ks = N (dueK d)) (hk : iOrd ks = j) (hj : 0 < j) (hn : n ≤ wOrd ks)
    (hdd : dueD d = false) (hd0 : dueK d ≠ 0) (hdev : dueDev c d = yn c)
    (hpay : pay m c ks false = pts c cc0_scratch3 (snd i) fullShare (bS m c))
    (hpay' : pay m (yn c) (dueK d) false = pts (yn c) cc0_scratch5 (chk (row (yn c)) i) fullShare (bO m (yn c)))  :
    iprop(St m K c n j (d + 1) ∗ pts c cc0_scratch1 (chk (row c) i) fullShare (B m c) ∗ ptsE c cc0_scratch3 (snd i) ∗ ptsE (yn c) cc0_scratch5 (chk (row c) i))
      ⊢ iprop((St m K c n (j + 1) d ∗ pts c cc0_scratch1 (chk (row c) i) fullShare (B m c) -∗ WP c (kont ⟨⟩) Q)
        -∗ WP c (.op (.load (Memref.whole cc0_scratch1) (Rect.unit (s := S768x1536) ![o, 0] ![128, 1536] inb).toLoadRect hl) fun (v : Vec F ⟨2, ![128, 1536]⟩ .f32) =>
          .op (.load (Memref.whole cc0_scratch3) (Rect.unit (s := S384x1536) ![os, 0] ![128, 1536] inb₂).toLoadRect hl₂) fun _ =>
          .op (.store (Memref.whole cc0_scratch3) (Rect.unit (s := S384x1536) ![os, 0] ![128, 1536] inb₃) (p v) Finset.univ hst hm) fun _ =>
          .op (.enqueueDma ((Memref.whole cc0_scratch3).slice (Rect.unit (s := S384x1536) ![os, 0] ![128, 1536] inb₄) hr₄)
            (.remote (Dev.tc e' : Thread nD τ) ((Memref.whole cc0_scratch5).slice (Rect.unit (s := S768x1536) ![o, 0] ![128, 1536] inb₅) hr₅) (csem ks) hsc) (csem (dueK d)) hsrc hdst hsem) kont) Q) := by
  subst hos
  iintro ⟨HS, HB, ⟨%f3, H3⟩, ⟨%f5, H5⟩⟩ Hk
  iapply (wp_load_rect 𝒱₀ (c : Thread nD τ) none Set.univ (m := Memref.whole cc0_scratch1) (S := chk (row c) i) (f := B m c)
    (r := Rect.unit (s := S768x1536) ![o, 0] ![128, 1536] inb) (set_slice (b := cc0_scratch1) (rect_rows ho inb)).subset) $$ HB
  iintro HB
  iapply (wp_load_rect 𝒱₀ (c : Thread nD τ) none Set.univ (m := Memref.whole cc0_scratch3) (S := snd i) (f := f3)
    (r := Rect.unit (s := S384x1536) ![128 * i, 0] ![128, 1536] inb₂) (set_slice (b := cc0_scratch3) (rect_rows rfl inb₂)).subset) $$ H3
  iintro H3
  iapply (wp_fill c (M := Memref.whole cc0_scratch3) (r := Rect.unit (s := S384x1536) ![128 * i, 0] ![128, 1536] inb₃) (snd i)
    (set_slice (b := cc0_scratch3) (rect_rows rfl inb₃)) f3 (bS m c) (by rw [hp]; exact read_bS' m c ho hi)) $$ H3
  iintro H3
  iapply (wp_put m c ks (d := d)
    (src := (Memref.whole cc0_scratch3).slice (Rect.unit (s := S384x1536) ![128 * i, 0] ![128, 1536] inb₄) hr₄)
    (dst := (Memref.whole cc0_scratch5).slice (Rect.unit (s := S768x1536) ![o, 0] ![128, 1536] inb₅) hr₅) (he.trans hdev.symm) rfl rfl ((amount_csem _ hd0).trans hN) hN' hk hj hn hdd (snd i) (chk (row c) i)
    (set_slice (b := cc0_scratch3) (rect_rows rfl inb₄)) (set_slice (b := cc0_scratch5) (rect_rows ho inb₅)) fullShare (bS m c) (bO m (yn c)) f5
    (read_bS m c ho hi) hpay (by rw [hdev, hpay', row_yn])) $$ [HS H3 H5]
  · isplitl [HS]; · iexact HS
    isplitl [H3]; · iexact H3
    rw [hdev]; iexact H5
  iintro HS
  iapply Hk
  isplitl [HS] <;> iassumption

/-- Sending columns `o` to `o + len` of the quantised block of `A` to the `y` neighbour. -/
theorem send_A (c : Dev nD) (ks : Fin 24) {α : Type} {Q : α → sProp 𝕄} {n j d : ℕ} (o len : ℕ) (e' : Dev nD) {inb inb' : _} {hr hr'} {hsc hsrc hdst hsem}
    {kont : PUnit → Prog (TpuEff nD τ sig (Elt F) Λ₀ .tc) α} (he : e' = yn c)
    (hN : credit ⟨2, ![1536, len]⟩ .i8 = N ks) (hN' : N ks = N (dueK d)) (hk : iOrd ks = j) (hj : 0 < j) (hn : n ≤ wOrd ks)
    (hdd : dueD d = false) (hd0 : dueK d ≠ 0) (hdev : dueDev c d = yn c)
    (hpay : pay m c ks false = pts c cc0_scratch2 (acol o len) fullShare (aQ m c))
    (hpay' : pay m (yn c) (dueK d) false = pts (yn c) cc0_scratch4 (acol o len) fullShare (aO m (yn c))) :
    iprop(St m K c n j (d + 1) ∗ pts c cc0_scratch2 (acol o len) fullShare (aQ m c) ∗ ptsE (yn c) cc0_scratch4 (acol o len))
      ⊢ iprop((St m K c n (j + 1) d -∗ WP c (kont ⟨⟩) Q)
        -∗ WP c (.op (.enqueueDma ((Memref.whole cc0_scratch2).slice (Rect.unit (s := S1536x768) ![0, o] ![1536, len] inb) hr)
            (.remote (Dev.tc e' : Thread nD τ) ((Memref.whole cc0_scratch4).slice (Rect.unit (s := S1536x768) ![0, o] ![1536, len] inb') hr') (csem ks) hsc) (csem (dueK d)) hsrc hdst hsem) kont) Q) := by
  iintro ⟨HS, H3, ⟨%f5, H5⟩⟩ Hk
  iapply (wp_put m c ks (d := d)
    (src := (Memref.whole cc0_scratch2).slice (Rect.unit (s := S1536x768) ![0, o] ![1536, len] inb) hr)
    (dst := (Memref.whole cc0_scratch4).slice (Rect.unit (s := S1536x768) ![0, o] ![1536, len] inb') hr') (he.trans hdev.symm) rfl rfl ((amount_csem _ hd0).trans hN) hN' hk hj hn hdd (acol o len) (acol o len)
    (set_slice (b := cc0_scratch2) (rect_cols inb)) (set_slice (b := cc0_scratch4) (rect_cols inb')) fullShare (aQ m c) (aO m (yn c)) f5
    (by unfold aO; rw [yn_yn]; rfl) hpay (by rw [hdev, hpay'])) $$ [HS H3 H5]
  · isplitl [HS]; · iexact HS
    isplitl [H3]; · iexact H3
    rw [hdev]; iexact H5
  iexact Hk

/-- Passing chunk `i` of half `row c` of the received `B` on to the `x` neighbour, with half of the share. -/
theorem send_X (c : Dev nD) (ks : Fin 24) {α : Type} {Q : α → sProp 𝕄} {n j d : ℕ} (i o : ℕ) (e' : Dev nD) {inb inb' : _} {hr hr'} {hsc hsrc hdst hsem}
    {kont : PUnit → Prog (TpuEff nD τ sig (Elt F) Λ₀ .tc) α} (he : e' = xn c) (ho : o = 384 * row c + 128 * i) (hi : i < 3)
    (hN : credit ⟨2, ![128, 1536]⟩ .i8 = N ks) (hN' : N ks = N (dueK d)) (hk : iOrd ks = j) (hj : 0 < j) (hn : n ≤ wOrd ks)
    (hdd : dueD d = false) (hd0 : dueK d ≠ 0) (hdev : dueDev c d = xn c)
    (hpay : pay m c ks false = pts c cc0_scratch5 (chk (row c) i) fullShare.right (bO m c))
    (hpay' : pay m (xn c) (dueK d) false = pts (xn c) cc0_scratch5 (chk (1 - row (xn c)) i) fullShare (bO m (xn c))) :
    iprop(St m K c n j (d + 1) ∗ pts c cc0_scratch5 (chk (row c) i) fullShare (bO m c) ∗ ptsE (xn c) cc0_scratch5 (chk (row c) i))
      ⊢ iprop((St m K c n (j + 1) d ∗ pts c cc0_scratch5 (chk (row c) i) fullShare.left (bO m c) -∗ WP c (kont ⟨⟩) Q)
        -∗ WP c (.op (.enqueueDma ((Memref.whole cc0_scratch5).slice (Rect.unit (s := S768x1536) ![o, 0] ![128, 1536] inb) hr)
            (.remote (Dev.tc e' : Thread nD τ) ((Memref.whole cc0_scratch5).slice (Rect.unit (s := S768x1536) ![o, 0] ![128, 1536] inb') hr') (csem ks) hsc) (csem (dueK d)) hsrc hdst hsem) kont) Q) := by
  iintro ⟨HS, H3, ⟨%f5, H5⟩⟩ Hk
  ihave H3 := (pointsTo_share (PosShare.mem_left_op_right fullShare)).1 $$ H3
  icases H3 with ⟨Hl, Hr⟩
  iapply (wp_put m c ks (d := d)
    (src := (Memref.whole cc0_scratch5).slice (Rect.unit (s := S768x1536) ![o, 0] ![128, 1536] inb) hr)
    (dst := (Memref.whole cc0_scratch5).slice (Rect.unit (s := S768x1536) ![o, 0] ![128, 1536] inb') hr') (he.trans hdev.symm) rfl rfl ((amount_csem _ hd0).trans hN) hN' hk hj hn hdd (chk (row c) i) (chk (row c) i)
    (set_slice (b := cc0_scratch5) (rect_rows ho inb)) (set_slice (b := cc0_scratch5) (rect_rows ho inb')) fullShare.right (bO m c) (bO m (xn c)) f5
    (read_bO m c ho hi) hpay (by rw [hdev, hpay', row_xn, show 1 - (1 - row c) = row c by have := row_lt c; omega])) $$ [HS Hr H5]
  · isplitl [HS]; · iexact HS
    isplitl [Hr]; · iexact Hr
    rw [hdev]; iexact H5
  iintro HS
  iapply Hk
  isplitl [HS] <;> iassumption

end Cert.Exchange

end
-- ==== Proof.Body1.lean ====
/- The kernel's first part: the local copies and the barrier. -/
module

public import proofs.«01_k».proof.Proof.Steps

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) {K : Dev nD × Fin 24 → ℕ}

/-- The block of `B` and its place in the kernel's memory, both on the elements `S`. -/
def bIn (c : Dev nD) (S : Finset S768x1536.Idx) : sProp 𝕄 := iprop(pts c main_arg1 S fullShare (B m c) ∗ ptsE c cc0_scratch1 S)

/-- The four copies of `B`: the chunks of the half that the device sends, and the other half. -/
theorem fetch_four (c : Dev nD) {α : Type} {Q : α → sProp 𝕄} (o1 o2 o3 o4 : ℕ)
    {i1 i2 i3 i4} {r1 r2 r3 r4} {a1 a2 a3 a4} {b1 b2 b3 b4} {d1 d2 d3 d4} {kont : PUnit → Prog (TpuEff nD τ sig (Elt F) Λ₀ .tc) α}
    (h1 : o1 = 384 * row c) (h2 : o2 = o1 + 128) (h3 : o3 = o1 + 256) (h4 : o4 = 384 * (1 - row c)) :
    iprop(St m K c 0 1 11 ∗ bIn m c (chk (row c) 0) ∗ bIn m c (chk (row c) 1) ∗ bIn m c (chk (row c) 2) ∗ bIn m c (half (1 - row c)))
      ⊢ iprop((St m K c 0 5 11 -∗ WP c (kont ⟨⟩) Q)
        -∗ WP c (.op (.enqueueDma ((Memref.whole main_arg1).slice (Rect.unit (s := S768x1536) ![o1, 0] ![128, 1536] i1) r1)
            (.here ((Memref.whole cc0_scratch1).slice (Rect.unit (s := S768x1536) ![o1, 0] ![128, 1536] i1) r1)) (csem 1) a1 b1 d1) fun _ =>
          .op (.enqueueDma ((Memref.whole main_arg1).slice (Rect.unit (s := S768x1536) ![o2, 0] ![128, 1536] i2) r2)
            (.here ((Memref.whole cc0_scratch1).slice (Rect.unit (s := S768x1536) ![o2, 0] ![128, 1536] i2) r2)) (csem 2) a2 b2 d2) fun _ =>
          .op (.enqueueDma ((Memref.whole main_arg1).slice (Rect.unit (s := S768x1536) ![o3, 0] ![128, 1536] i3) r3)
            (.here ((Memref.whole cc0_scratch1).slice (Rect.unit (s := S768x1536) ![o3, 0] ![128, 1536] i3) r3)) (csem 3) a3 b3 d3) fun _ =>
          .op (.enqueueDma ((Memref.whole main_arg1).slice (Rect.unit (s := S768x1536) ![o4, 0] ![384, 1536] i4) r4)
            (.here ((Memref.whole cc0_scratch1).slice (Rect.unit (s := S768x1536) ![o4, 0] ![384, 1536] i4) r4)) (csem 4) a4 b4 d4) kont) Q) := by
  unfold bIn
  iintro ⟨HS, ⟨HB1, ⟨%f1, H1⟩⟩, ⟨HB2, ⟨%f2, H2⟩⟩, ⟨HB3, ⟨%f3, H3⟩⟩, ⟨HB4, ⟨%f4, H4⟩⟩⟩ Hk
  iapply (fetch_B m c 1 (n := 0) (j := 1) (d := 11) o1 128 (chk (row c) 0) (fun inb => rect_rows (by omega) inb) rfl rfl (by decide) (by decide) rfl f1) $$ [HS HB1 H1]
  · isplitl [HS]; · iexact HS
    isplitl [HB1] <;> iassumption
  iintro HS
  iapply (fetch_B m c 2 (n := 0) (j := 2) (d := 11) o2 128 (chk (row c) 1) (fun inb => rect_rows (by omega) inb) rfl rfl (by decide) (by decide) rfl f2) $$ [HS HB2 H2]
  · isplitl [HS]; · iexact HS
    isplitl [HB2] <;> iassumption
  iintro HS
  iapply (fetch_B m c 3 (n := 0) (j := 3) (d := 11) o3 128 (chk (row c) 2) (fun inb => rect_rows (by omega) inb) rfl rfl (by decide) (by decide) rfl f3) $$ [HS HB3 H3]
  · isplitl [HS]; · iexact HS
    isplitl [HB3] <;> iassumption
  iintro HS
  iapply (fetch_B m c 4 (n := 0) (j := 4) (d := 11) o4 384 (half (1 - row c)) (fun inb => rect_rows (by omega) inb) rfl rfl (by decide) (by decide) rfl f4) $$ [HS HB4 H4]
  · isplitl [HS]; · iexact HS
    isplitl [HB4] <;> iassumption
  iexact Hk

/-- What a device may write on its neighbours after the barrier. -/
def granted (c : Dev nD) : sProp 𝕄 :=
  iprop((ptsE (yn c) cc0_scratch4 Finset.univ ∗ ptsE (yn c) cc0_scratch5 (half (row c))) ∗ ptsE (xn c) cc0_scratch5 (half (row c)))

theorem pay_bar_y (c : Dev nD) : pay m (yn c) 0 false
    = (iprop(ptsE c cc0_scratch4 Finset.univ ∗ ptsE c cc0_scratch5 (half (row c))) : sProp 𝕄) := by
  show iprop(ptsE (yn (yn c)) cc0_scratch4 Finset.univ ∗ ptsE (yn (yn c)) cc0_scratch5 (half (row (yn c)))) = _
  rw [row_yn, yn_yn]
theorem pay_bar_x (c : Dev nD) : pay m (xn c) 0 true = (ptsE c cc0_scratch5 (half (1 - row c)) : sProp 𝕄) := by
  show ptsE (xn (xn c)) cc0_scratch5 (half (row (xn c))) = _
  rw [row_xn, xn_xn]

/-- The copy of `A`, the two signals and the wait at the barrier. -/
theorem barrier_run (c : Dev nD) {α : Type} {Q : α → sProp 𝕄} {e1 e2 : Dev nD} {a b d} {k1 k2 k3 : ℕ} {kont : PUnit → Prog (TpuEff nD τ sig (Elt F) Λ₀ .tc) α}
    (he1 : e1 = yn c) (he2 : e2 = xn c) (hk1 : k1 = 1) (hk2 : k2 = 1) (hk3 : k3 = 2) :
    iprop(St m K c 0 5 11 ∗ pts c main_arg0 Finset.univ fullShare (A m c) ∗ ptsE c cc0_scratch0 Finset.univ
        ∗ ptsE c cc0_scratch4 Finset.univ ∗ ptsE c cc0_scratch5 (half (row c)) ∗ ptsE c cc0_scratch5 (half (1 - row c)))
      ⊢ iprop((St m K c 1 6 9 ∗ granted c -∗ WP c (kont ⟨⟩) Q)
        -∗ WP c (.op (.enqueueDma (Memref.whole main_arg0) (.here (Memref.whole cc0_scratch0)) (csem 5) a b d) fun _ =>
          .op (.semSignal (Dev.tc e1 : Thread nD τ) barS k1) fun _ =>
          .op (.semSignal (Dev.tc e2 : Thread nD τ) barS k2) fun _ =>
          .op (.semWait barS k3) kont) Q) := by
  iintro ⟨HS, HA, ⟨%f0, H0⟩, H4, H5, H5'⟩ Hk
  iapply (fetch_A m c (n := 0) (d := 11) (j := 5) rfl (by decide) f0) $$ [HS HA H0]
  · isplitl [HS]; · iexact HS
    isplitl [HA] <;> iassumption
  iintro HS
  iapply (wp_tell m c (n := 0) (j := 6) (d := 10) (sem := barS) (k' := k1) he1 rfl hk1 rfl) $$ [HS H4 H5]
  · isplitl [HS]; · iexact HS
    ihave Hp := (Entails.of_eq (pay_bar_y m c).symm) $$ [H4 H5]
    · isplitl [H4] <;> iassumption
    iexact Hp
  iintro HS
  iapply (wp_tell m c (n := 0) (j := 6) (d := 9) (sem := barS) (k' := k2) he2 rfl hk2 rfl) $$ [HS H5']
  · isplitl [HS]; · iexact HS
    ihave Hp := (Entails.of_eq (pay_bar_x m c).symm) $$ H5'
    iexact Hp
  iintro HS
  iapply (wp_take m c 0 (n := 0) (j := 6) (d := 9) (sm := .reg barS) (k' := k3) (wpE_semWait_eq 𝒱₀ (c : Thread nD τ) none Set.univ) rfl hk3 rfl (by decide) (by decide)) $$ HS
  iintro ⟨HS, Hp⟩
  iapply Hk
  isplitl [HS]; · iexact HS
  ihave Hp := (Entails.of_eq (show payAll m c 0 = granted c from rfl)) $$ Hp
  iexact Hp

/-- The kernel's first part, to the barrier. -/
theorem part1 (c : Dev nD) {Q : (Σ' (d0 : Dev nD) (v2 : BitVec 32) (v5 : BitVec 32) (v6 : BitVec 32), BitVec 32) → sProp 𝕄} :
    iprop((St m K c 0 1 11 ∗ bIn m c (chk (row c) 0) ∗ bIn m c (chk (row c) 1) ∗ bIn m c (chk (row c) 2) ∗ bIn m c (half (1 - row c)))
        ∗ (pts c main_arg0 Finset.univ fullShare (A m c) ∗ ptsE c cc0_scratch0 Finset.univ
        ∗ ptsE c cc0_scratch4 Finset.univ ∗ ptsE c cc0_scratch5 (half (row c)) ∗ ptsE c cc0_scratch5 (half (1 - row c)))
        ∗ (∀ r, ⌜r.1 = c⌝ -∗ (St m K c 1 6 9 ∗ granted c) -∗ Q r))
      ⊢ WP c (k0_part1 (F := F) (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13) Q := by
  rw [k0_part1_eq_skeleton]; unfold k0_part1_skel
  simp only [semSignalWord, semWaitWord, Prog.lift, Prog.bind_op, Prog.bind_ret, Prog.pure_eq_ret, wp_deviceId]
  rcases row_cases c with hx | hx
  · rw [dif_pos (show _ = 1#1 by revert hx; revert c; decide), dif_neg (show ¬ _ = 1#1 by revert hx; revert c; decide)]
    iintro ⟨H1, H2, Hk⟩
    iapply (fetch_four m c 0 128 256 384 (by omega) (by omega) (by omega) (by omega)) $$ H1
    iintro HS
    iapply (barrier_run m c (e1 := ⟨k0_dev1 c, _⟩) (e2 := ⟨k0_dev2 c, _⟩) (k1 := 1) (k2 := 1) (k3 := 2) (Fin.ext (k0_dev1_eq c)) (Fin.ext (k0_dev2_eq c)) rfl rfl rfl) $$ [HS H2]
    · isplitl [HS] <;> iassumption
    iintro HS
    iapply (le_wp_ret _ _ _ _ _)
    iapply Hk $$ %_ %rfl HS
  · rw [dif_neg (show ¬ _ = 1#1 by revert hx; revert c; decide), dif_pos (show _ = 1#1 by revert hx; revert c; decide)]
    iintro ⟨H1, H2, Hk⟩
    iapply (fetch_four m c 384 512 640 0 (by omega) (by omega) (by omega) (by omega)) $$ H1
    iintro HS
    iapply (barrier_run m c (e1 := ⟨k0_dev1 c, _⟩) (e2 := ⟨k0_dev2 c, _⟩) (k1 := 1) (k2 := 1) (k3 := 2) (Fin.ext (k0_dev1_eq c)) (Fin.ext (k0_dev2_eq c)) rfl rfl rfl) $$ [HS H2]
    · isplitl [HS] <;> iassumption
    iintro HS
    iapply (le_wp_ret _ _ _ _ _)
    iapply Hk $$ %_ %rfl HS

end Cert.Exchange

end
-- ==== Proof.Body2.lean ====
/- The kernel's second part: the half of `B` that the device sends, quantised chunk by chunk. -/
module

public import proofs.«01_k».proof.Proof.Steps
public import Idealize.ShloMosaic.Lib.Pipeline.Value

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) {K : Dev nD × Fin 24 → ℕ}

/-! ## Cutting a buffer in three -/

section Three
variable {ℓ : Loc nD τ sig} {U S T R : Finset (Idx ℓ)}

omit [FloatOps F] in
theorem pts_cut3 (h : U = S ∪ (T ∪ R)) (h1 : Disjoint S (T ∪ R)) (h2 : Disjoint T R) (q : PosShare TreeShare) (f : Buf (Elt F) ℓ) :
    (ℓ ↦[U]{q} f : sProp 𝕄) = iprop((ℓ ↦[S]{q} f) ∗ (ℓ ↦[T]{q} f) ∗ (ℓ ↦[R]{q} f)) := by
  rw [pts_cut h h1, pts_cut rfl h2]

omit [FloatOps F] in
theorem ptsE_cut3 (h : U = S ∪ (T ∪ R)) (h1 : Disjoint S (T ∪ R)) (h2 : Disjoint T R) :
    iprop(∃ f : Buf (Elt F) ℓ, ℓ ↦[U]{fullShare} f : sProp 𝕄)
      ⊢ iprop((∃ f : Buf (Elt F) ℓ, ℓ ↦[S]{fullShare} f) ∗ (∃ f : Buf (Elt F) ℓ, ℓ ↦[T]{fullShare} f) ∗ (∃ f : Buf (Elt F) ℓ, ℓ ↦[R]{fullShare} f)) := by
  iintro ⟨%f, H⟩
  ihave H := (Entails.of_eq (pts_cut3 h h1 h2 fullShare f)) $$ H
  icases H with ⟨H1, H2, H3⟩
  isplitl [H1]; · iexists f; iexact H1
  isplitl [H2] <;> iexists f <;> iassumption
end Three

theorem rows_cut3 {A B o n k l : ℕ} : rowSet A B o (n + (k + l)) = rowSet A B o n ∪ (rowSet A B (o + n) k ∪ rowSet A B (o + n + k) l) := by
  rw [rows_cut, rows_cut]
theorem rows_disj3 {A B o n k l : ℕ} : Disjoint (rowSet A B o n) (rowSet A B (o + n) k ∪ rowSet A B (o + n + k) l) :=
  Finset.disjoint_union_right.mpr ⟨rows_disj (by omega), rows_disj (by omega)⟩
theorem cols_cut3 {A B o n k l : ℕ} : colSet A B o (n + (k + l)) = colSet A B o n ∪ (colSet A B (o + n) k ∪ colSet A B (o + n + k) l) := by
  rw [cols_cut, cols_cut]
theorem cols_disj3 {A B o n k l : ℕ} : Disjoint (colSet A B o n) (colSet A B (o + n) k ∪ colSet A B (o + n + k) l) :=
  Finset.disjoint_union_right.mpr ⟨cols_disj (by omega), cols_disj (by omega)⟩

theorem half_cut (x : ℕ) : half x = chk x 0 ∪ (chk x 1 ∪ chk x 2) := rows_cut3 (n := 128) (k := 128) (l := 128)
theorem half_disj (x : ℕ) : Disjoint (chk x 0) (chk x 1 ∪ chk x 2) := rows_disj3 (n := 128) (k := 128) (l := 128)
theorem chk_disj (x : ℕ) : Disjoint (chk x 1) (chk x 2) := rows_disj (by omega)
theorem snd_cut : Finset.univ = snd 0 ∪ (snd 1 ∪ snd 2) := rows_all.symm.trans (rows_cut3 (n := 128) (k := 128) (l := 128))
theorem snd_disj : Disjoint (snd 0) (snd 1 ∪ snd 2) := rows_disj3 (n := 128) (k := 128) (l := 128)
theorem snd_disj' : Disjoint (snd 1) (snd 2) := rows_disj (by omega)
theorem acol_cut : Finset.univ = acol 0 384 ∪ (acol 384 256 ∪ acol 640 128) := cols_all.symm.trans (cols_cut3 (n := 384) (k := 256) (l := 128))
theorem acol_disj : Disjoint (acol 0 384) (acol 384 256 ∪ acol 640 128) := cols_disj3 (n := 384) (k := 256) (l := 128)
theorem acol_disj' : Disjoint (acol 384 256) (acol 640 128) := cols_disj (by omega)
theorem halves_cut (c : Dev nD) : Finset.univ = half (row c) ∪ half (1 - row c) := by
  rcases row_cases c with h | h <;> rw [h]
  · exact rows_all.symm.trans (rows_cut (n := 384) (k := 384))
  · exact (rows_all.symm.trans (rows_cut (n := 384) (k := 384))).trans (Finset.union_comm _ _)
theorem halves_disj (c : Dev nD) : Disjoint (half (row c)) (half (1 - row c)) := by
  have := row_lt c
  exact rows_disj (by omega)

/-! ## A wait for a copy -/

theorem dmaCredit_eq {sp : Space} {s : Shape} {e : EltTy} (v : View sig .tc sp s e) : v.dmaCredit = credit s e := rfl

/-- A wait on the DMA semaphore `k`. -/
theorem take_dma (c : Dev nD) (k : Fin 24) {α : Type} {Q : α → sProp 𝕄} {n j d : ℕ} {sp sp' : Space} (s : Shape) (e : EltTy) {s' : Shape} {e' : EltTy}
    {src : Memref sig .tc sp' s' e'} {dst : Memref sig .tc sp s e} {hsrc : src.view.WordExact} {hdst : dst.view.WordExact}
    {kont : PUnit → Prog (TpuEff nD τ sig (Elt F) Λ₀ .tc) α}
    (h0 : k ≠ 0) (hN : credit s e = N k) (hk : wOrd k = n) (hj : iOrd k < j) (hd : ∀ i < d, lvK k < lvK (dueK i)) :
    St m K c n j d ⊢ iprop(((St m K c (n + 1) j d ∗ pay m c k false) -∗ WP c (kont ⟨⟩) Q)
      -∗ WP c (.op (.waitDma2 (nD := nD) (Val := Elt F) (Λ := Λ₀) (k : DmaSem sig) src dst hsrc hdst) kont) Q) := by
  have h := wp_take (Q := Q) (kont := kont) m (K := K) c k (j := j) (d := d) (wpE_waitDma2_eq 𝒱₀ (c : Thread nD τ) none Set.univ (sem := k) (src := src) (dst := dst) (hsrc := hsrc) (hdst := hdst))
    (csem_pos h0).symm (((dmaCredit_eq _).trans hN).trans (X_pos h0).symm) hk hj hd
  rwa [show payAll m c k = pay m c k false from if_neg h0] at h

/-! ## Part 2: the chunks of `B` -/

/-- Chunk `i` has arrived: it is quantised and sent on. -/
theorem chunk_run (c : Dev nD) (kw ks : Fin 24) {α : Type} {Q : α → sProp 𝕄} {n j d : ℕ} (i o os : ℕ) (e' : Dev nD) (p : Vec F ⟨2, ![128, 1536]⟩ .f32 → Vec F ⟨2, ![128, 1536]⟩ .i8)
    {src : Memref sig .tc .hbm ⟨2, ![128, 1536]⟩ .f32} {dst : Memref sig .tc .vmem ⟨2, ![128, 1536]⟩ .f32} {hsrc' : src.view.WordExact} {hdst' : dst.view.WordExact}
    {inb inb₂ inb₃ inb₄ inb₅ : _} {hr₄ hr₅} {hl hl₂ hst hm hsc hsrc hdst hsem}
    {kont : PUnit → Prog (TpuEff nD τ sig (Elt F) Λ₀ .tc) α}
    (hp : ∀ v, p v = quant (F := F) v) (he : e' = yn c) (ho : o = 384 * row c + 128 * i) (hos : os = 128 * i) (hi : i < 3)
    (hw0 : kw ≠ 0) (hwN : credit ⟨2, ![128, 1536]⟩ .f32 = N kw) (hwk : wOrd kw = n) (hwj : iOrd kw < j) (hwd : ∀ i < d + 1, lvK kw < lvK (dueK i))
    (hwp : pay m c kw false = inPay m c (chk (row c) i))
    (hN : credit ⟨2, ![128, 1536]⟩ .i8 = N ks) (hN' : N ks = N (dueK d)) (hk : iOrd ks = j) (hj : 0 < j) (hn : n + 1 ≤ wOrd ks)
    (hdd : dueD d = false) (hd0 : dueK d ≠ 0) (hdev : dueDev c d = yn c)
    (hpay : pay m c ks false = pts c cc0_scratch3 (snd i) fullShare (bS m c))
    (hpay' : pay m (yn c) (dueK d) false = pts (yn c) cc0_scratch5 (chk (row (yn c)) i) fullShare (bO m (yn c))) :
    iprop(St m K c n j (d + 1) ∗ ptsE c cc0_scratch3 (snd i) ∗ ptsE (yn c) cc0_scratch5 (chk (row c) i))
      ⊢ iprop((St m K c (n + 1) (j + 1) d ∗ inPay m c (chk (row c) i) -∗ WP c (kont ⟨⟩) Q)
        -∗ WP c (.op (.waitDma2 (nD := nD) (Val := Elt F) (Λ := Λ₀) (kw : DmaSem sig) src dst hsrc' hdst') fun _ =>
          .op (.load (Memref.whole cc0_scratch1) (Rect.unit (s := S768x1536) ![o, 0] ![128, 1536] inb).toLoadRect hl) fun (v : Vec F ⟨2, ![128, 1536]⟩ .f32) =>
          .op (.load (Memref.whole cc0_scratch3) (Rect.unit (s := S384x1536) ![os, 0] ![128, 1536] inb₂).toLoadRect hl₂) fun _ =>
          .op (.store (Memref.whole cc0_scratch3) (Rect.unit (s := S384x1536) ![os, 0] ![128, 1536] inb₃) (p v) Finset.univ hst hm) fun _ =>
          .op (.enqueueDma ((Memref.whole cc0_scratch3).slice (Rect.unit (s := S384x1536) ![os, 0] ![128, 1536] inb₄) hr₄)
            (.remote (Dev.tc e' : Thread nD τ) ((Memref.whole cc0_scratch5).slice (Rect.unit (s := S768x1536) ![o, 0] ![128, 1536] inb₅) hr₅) (csem ks) hsc) (csem (dueK d)) hsrc hdst hsem) kont) Q) := by
  iintro ⟨HS, H3, H5⟩ Hk
  iapply (take_dma m c kw (n := n) (j := j) (d := d + 1) ⟨2, ![128, 1536]⟩ .f32 hw0 hwN hwk hwj hwd) $$ HS
  iintro ⟨HS, Hp⟩
  ihave Hp := (Entails.of_eq hwp) $$ Hp
  unfold inPay
  icases Hp with ⟨HB, Harg⟩
  iapply (quant_send m c ks (n := n + 1) (j := j) (d := d) i o os e' p hp he ho hos hi hN hN' hk hj hn hdd hd0 hdev hpay hpay') $$ [HS HB H3 H5]
  · isplitl [HS]; · iexact HS
    isplitl [HB]; · iexact HB
    isplitl [H3] <;> iassumption
  iintro ⟨HS, HB⟩
  iapply Hk
  isplitl [HS]; · iexact HS
  isplitl [HB] <;> iassumption

theorem part2 (c : Dev nD) (v2 v6 : BitVec 32) {Q : PUnit → sProp 𝕄} :
    iprop((St m K c 1 6 9 ∗ ptsE c cc0_scratch3 Finset.univ ∗ ptsE (yn c) cc0_scratch5 (half (row c)))
        ∗ ((St m K c 4 9 6 ∗ inPay m c (chk (row c) 0) ∗ inPay m c (chk (row c) 1) ∗ inPay m c (chk (row c) 2)) -∗ Q ⟨⟩))
      ⊢ WP c (k0_part2 (F := F) (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v2 v6) Q := by
  rw [k0_part2_eq_skeleton]; unfold k0_part2_skel
  rcases row_cases c with hx | hx
  · have hp : k0_cond3 c = 1#1 ∧ k0_cond5 c = 1#1 ∧ k0_cond7 c = 1#1 := by revert hx; revert c; decide
    have hn : ¬ k0_cond4 c = 1#1 ∧ ¬ k0_cond6 c = 1#1 ∧ ¬ k0_cond8 c = 1#1 := by revert hx; revert c; decide
    simp only [dif_pos hp.1, dif_pos hp.2.1, dif_pos hp.2.2, dif_neg hn.1, dif_neg hn.2.1, dif_neg hn.2.2]
    simp only [Prog.lift, Prog.bind_op, Prog.bind_ret, Prog.pure_eq_ret]
    iintro ⟨⟨HS, H3, H5⟩, Hk⟩
    ihave H3 := (ptsE_cut3 snd_cut snd_disj snd_disj') $$ H3
    icases H3 with ⟨H30, H31, H32⟩
    ihave H5 := (ptsE_cut3 (half_cut _) (half_disj _) (chk_disj _)) $$ H5
    icases H5 with ⟨H50, H51, H52⟩
    iapply (chunk_run m c 1 6 (n := 1) (j := 6) (d := 8) 0 0 0 ⟨k0_dev3 c, _⟩ k0_pay1 (fun v => shapeCast_self _ _) (Fin.ext (k0_dev3_eq c)) (by omega) rfl (by decide)
      (by decide) rfl rfl (by decide) (by decide) rfl rfl rfl rfl (by decide) (by decide) rfl (by decide) rfl rfl rfl) $$ [HS H30 H50]
    · isplitl [HS]; · iexact HS
      isplitl [H30] <;> iassumption
    iintro ⟨HS, HP0⟩
    iapply (chunk_run m c 2 7 (n := 2) (j := 7) (d := 7) 1 128 128 ⟨k0_dev5 c, _⟩ k0_pay3 (fun v => shapeCast_self _ _) (Fin.ext (k0_dev5_eq c)) (by omega) rfl (by decide)
      (by decide) rfl rfl (by decide) (by decide) rfl rfl rfl rfl (by decide) (by decide) rfl (by decide) rfl rfl rfl) $$ [HS H31 H51]
    · isplitl [HS]; · iexact HS
      isplitl [H31] <;> iassumption
    iintro ⟨HS, HP1⟩
    iapply (chunk_run m c 3 8 (n := 3) (j := 8) (d := 6) 2 256 256 ⟨k0_dev7 c, _⟩ k0_pay5 (fun v => shapeCast_self _ _) (Fin.ext (k0_dev7_eq c)) (by omega) rfl (by decide)
      (by decide) rfl rfl (by decide) (by decide) rfl rfl rfl rfl (by decide) (by decide) rfl (by decide) rfl rfl rfl) $$ [HS H32 H52]
    · isplitl [HS]; · iexact HS
      isplitl [H32] <;> iassumption
    iintro ⟨HS, HP2⟩
    iapply (le_wp_ret _ _ _ _ _)
    iapply Hk
    isplitl [HS]; · iexact HS
    isplitl [HP0]; · iexact HP0
    isplitl [HP1] <;> iassumption
  · have hp : k0_cond4 c = 1#1 ∧ k0_cond6 c = 1#1 ∧ k0_cond8 c = 1#1 := by revert hx; revert c; decide
    have hn : ¬ k0_cond3 c = 1#1 ∧ ¬ k0_cond5 c = 1#1 ∧ ¬ k0_cond7 c = 1#1 := by revert hx; revert c; decide
    simp only [dif_pos hp.1, dif_pos hp.2.1, dif_pos hp.2.2, dif_neg hn.1, dif_neg hn.2.1, dif_neg hn.2.2]
    simp only [Prog.lift, Prog.bind_op, Prog.bind_ret, Prog.pure_eq_ret]
    iintro ⟨⟨HS, H3, H5⟩, Hk⟩
    ihave H3 := (ptsE_cut3 snd_cut snd_disj snd_disj') $$ H3
    icases H3 with ⟨H30, H31, H32⟩
    ihave H5 := (ptsE_cut3 (half_cut _) (half_disj _) (chk_disj _)) $$ H5
    icases H5 with ⟨H50, H51, H52⟩
    iapply (chunk_run m c 1 6 (n := 1) (j := 6) (d := 8) 0 384 0 ⟨k0_dev4 c, _⟩ k0_pay2 (fun v => shapeCast_self _ _) (Fin.ext (k0_dev4_eq c)) (by omega) rfl (by decide)
      (by decide) rfl rfl (by decide) (by decide) rfl rfl rfl rfl (by decide) (by decide) rfl (by decide) rfl rfl rfl) $$ [HS H30 H50]
    · isplitl [HS]; · iexact HS
      isplitl [H30] <;> iassumption
    iintro ⟨HS, HP0⟩
    iapply (chunk_run m c 2 7 (n := 2) (j := 7) (d := 7) 1 512 128 ⟨k0_dev6 c, _⟩ k0_pay4 (fun v => shapeCast_self _ _) (Fin.ext (k0_dev6_eq c)) (by omega) rfl (by decide)
      (by decide) rfl rfl (by decide) (by decide) rfl rfl rfl rfl (by decide) (by decide) rfl (by decide) rfl rfl rfl) $$ [HS H31 H51]
    · isplitl [HS]; · iexact HS
      isplitl [H31] <;> iassumption
    iintro ⟨HS, HP1⟩
    iapply (chunk_run m c 3 8 (n := 3) (j := 8) (d := 6) 2 640 256 ⟨k0_dev8 c, _⟩ k0_pay6 (fun v => shapeCast_self _ _) (Fin.ext (k0_dev8_eq c)) (by omega) rfl (by decide)
      (by decide) rfl rfl (by decide) (by decide) rfl rfl rfl rfl (by decide) (by decide) rfl (by decide) rfl rfl rfl) $$ [HS H32 H52]
    · isplitl [HS]; · iexact HS
      isplitl [H32] <;> iassumption
    iintro ⟨HS, HP2⟩
    iapply (le_wp_ret _ _ _ _ _)
    iapply Hk
    isplitl [HS]; · iexact HS
    isplitl [HP0]; · iexact HP0
    isplitl [HP1] <;> iassumption

end Cert.Exchange

end
-- ==== Proof.Body3.lean ====
/- What the accumulator and the result hold, and the kernel's third and fourth parts: `A` quantised and sent, and the first columns of the device's own product. -/
module

public import proofs.«01_k».proof.Proof.Body2

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) {K : Dev nD × Fin 24 → ℕ}

/-! ## Reading an array at a rectangle -/

/-- The array at the rectangle's elements. -/
def rd {s : Shape} {α : Type} (f : s.Idx → α) (r : Rect s) : r.shape.Idx → α := fun x => f (r.emb x)

theorem rect_all {A B : ℕ} (inb) : (Rect.unit (s := (⟨2, ![A, B]⟩ : Shape)) ![0, 0] ![A, B] inb).set = Finset.univ :=
  (rect_rows rfl inb).trans rows_all

theorem rd_all {A B : ℕ} {α : Type} (f : (⟨2, ![A, B]⟩ : Shape).Idx → α) (inb) :
    rd f (Rect.unit (s := (⟨2, ![A, B]⟩ : Shape)) ![0, 0] ![A, B] inb) = f := by
  funext x
  show f _ = f x
  congr 1
  funext a
  refine Fin.ext ?_
  fin_cases a
  · show 0 + 1 * (x 0).val = (x 0).val; omega
  · show 0 + 1 * (x 1).val = (x 1).val; omega

/-- A load of the rectangle `r` of a buffer that holds `f`, whose elements there are `v`. -/
theorem wp_see (c : Dev nD) {α : Type} {Q : α → sProp 𝕄} {cs : CoreSpace} {s : Shape} {e : EltTy} {M : Memref sig .tc cs s e} {r : Rect s} {hl : M.view.LoadsAt r}
    {kont : (r.shape.Idx → Elt F e) → Prog (TpuEff nD τ sig (Elt F) Λ₀ .tc) α}
    (S : Finset (Idx ((M.access r).loc (c : Thread nD τ)))) (hS : (M.access r).set ⊆ S) (q : PosShare TreeShare)
    (f : Buf (Elt F) ((M.access r).loc (c : Thread nD τ))) (v : r.shape.Idx → Elt F e) (hv : (M.access r).read (Elt F) f = v) :
    ((M.access r).loc (c : Thread nD τ) ↦[S]{q} f)
      ⊢ iprop((((M.access r).loc (c : Thread nD τ) ↦[S]{q} f) -∗ WP c (kont v) Q) -∗ WP c (.op (.load M r hl) kont) Q) := by
  subst hv
  exact wp_load_rect 𝒱₀ (c : Thread nD τ) none Set.univ hS

/-! ## Three blocks of columns -/

/-- The index within its block of 512 columns. -/
def within (i : S1536x1536.Idx) : S1536x512.Idx
  | 0 => ⟨(i 0).val, (i 0).isLt⟩
  | 1 => ⟨(i 1).val % 512, Nat.mod_lt _ (by decide)⟩

/-- The array whose blocks of 512 columns are the three given. -/
def glue3 {α : Type} (w0 w1 w2 : S1536x512.Idx → α) : S1536x1536.Idx → α := fun i =>
  if (i 1).val < 512 then w0 (within i) else if (i 1).val < 1024 then w1 (within i) else w2 (within i)

theorem within_emb {o t : ℕ} (ho : o = 512 * t) (inb) (x : (Rect.unit (s := S1536x1536) ![0, o] ![1536, 512] inb).shape.Idx) :
    within ((Rect.unit (s := S1536x1536) ![0, o] ![1536, 512] inb).emb x) = x := by
  have hx : (x 1).val < 512 := (x 1).isLt
  funext a
  refine Fin.ext ?_
  fin_cases a
  · show 0 + 1 * (x 0).val = (x 0).val; omega
  · show (o + 1 * (x 1).val) % 512 = (x 1).val; omega

section Glue
variable {α : Type} (w0 w1 w2 : S1536x512.Idx → α)

theorem glue3_0 {i : S1536x1536.Idx} (h : (i 1).val < 512) : glue3 w0 w1 w2 i = w0 (within i) := if_pos h
theorem glue3_1 {i : S1536x1536.Idx} (h : 512 ≤ (i 1).val) (h' : (i 1).val < 1024) : glue3 w0 w1 w2 i = w1 (within i) :=
  (if_neg (by omega)).trans (if_pos h')
theorem glue3_2 {i : S1536x1536.Idx} (h : 1024 ≤ (i 1).val) : glue3 w0 w1 w2 i = w2 (within i) :=
  (if_neg (by omega)).trans (if_neg (by omega))

theorem rd_glue0 (inb) : rd (glue3 w0 w1 w2) (Rect.unit (s := S1536x1536) ![0, 0] ![1536, 512] inb) = w0 := by
  funext x
  have hx : (x 1).val < 512 := (x 1).isLt
  exact (glue3_0 w0 w1 w2 (show 0 + 1 * (x 1).val < 512 by omega)).trans (congrArg w0 (within_emb (t := 0) rfl inb x))
theorem rd_glue1 (inb) : rd (glue3 w0 w1 w2) (Rect.unit (s := S1536x1536) ![0, 512] ![1536, 512] inb) = w1 := by
  funext x
  have hx : (x 1).val < 512 := (x 1).isLt
  exact (glue3_1 w0 w1 w2 (show 512 ≤ 512 + 1 * (x 1).val by omega) (show 512 + 1 * (x 1).val < 1024 by omega)).trans
    (congrArg w1 (within_emb (t := 1) rfl inb x))
theorem rd_glue2 (inb) : rd (glue3 w0 w1 w2) (Rect.unit (s := S1536x1536) ![0, 1024] ![1536, 512] inb) = w2 := by
  funext x
  have hx : (x 1).val < 512 := (x 1).isLt
  exact (glue3_2 w0 w1 w2 (show 1024 ≤ 1024 + 1 * (x 1).val by omega)).trans (congrArg w2 (within_emb (t := 2) rfl inb x))
end Glue

/-- Block `t` of 512 columns. -/
abbrev third (t : ℕ) : Finset S1536x1536.Idx := colSet 1536 1536 (512 * t) 512
theorem third_cut : Finset.univ = third 0 ∪ (third 1 ∪ third 2) := cols_all.symm.trans (cols_cut3 (n := 512) (k := 512) (l := 512))
theorem third_disj : Disjoint (third 0) (third 1 ∪ third 2) := cols_disj3 (n := 512) (k := 512) (l := 512)
theorem third_disj' : Disjoint (third 1) (third 2) := cols_disj (by omega)

/-! ## What the accumulator and the result hold -/

/-- The accumulator after the device's own product. -/
def acc0 (c : Dev nD) : S1536x1536.Idx → Elt F .f32 :=
  glue3 (k0_pay10 (A m c) (B m c)) (k0_pay11 (k0_pay8 (A m c)) (k0_pay9 (B m c)))
    (k0_pay13 (k0_pay8 (A m c)) (k0_pay12 (k0_pay9 (B m c))))
/-- After the first piece of the received product. -/
def acc1 (c : Dev nD) : S1536x1536.Idx → Elt F .f32 :=
  k0_pay15 (acc0 m c) (k0_pay14 (rd (aO m c) (Rect.unit (s := S1536x768) ![0, 0] ![1536, 384] inb_S1536x768_S1536x384_0_0)))
    (rd (bO m c) (Rect.unit (s := S768x1536) ![0, 0] ![384, 1536] inb_S768x1536_S384x1536_0_0))
/-- After the second piece of the received product. -/
def acc2 (c : Dev nD) : S1536x1536.Idx → Elt F .f32 :=
  k0_pay16 (acc1 m c) (rd (aO m c) (Rect.unit (s := S1536x768) ![0, 384] ![1536, 256] inb_S1536x768_S1536x256_0_384))
    (rd (bO m c) (Rect.unit (s := S768x1536) ![384, 0] ![256, 1536] inb_S768x1536_S256x1536_384_0))
/-- The last columns of the received block of `A`. -/
def aLast (c : Dev nD) : Vec F S1536x128 .i8 := rd (aO m c) (Rect.unit (s := S1536x768) ![0, 640] ![1536, 128] inb_S1536x768_S1536x128_0_640)
def out0 (c : Dev nD) : S1536x512.Idx → Elt F .bf16 :=
  k0_pay18 (aLast m c) (rd (acc2 m c) (Rect.unit (s := S1536x1536) ![0, 0] ![1536, 512] inb_S1536x1536_S1536x512_0_0))
    (rd (bO m c) (Rect.unit (s := S768x1536) ![640, 0] ![128, 512] inb_S768x1536_S128x512_640_0))
def out1 (c : Dev nD) : S1536x512.Idx → Elt F .bf16 :=
  k0_pay19 (aLast m c) (rd (acc2 m c) (Rect.unit (s := S1536x1536) ![0, 512] ![1536, 512] inb_S1536x1536_S1536x512_0_512))
    (rd (bO m c) (Rect.unit (s := S768x1536) ![640, 512] ![128, 512] inb_S768x1536_S128x512_640_512))
def out2 (c : Dev nD) : S1536x512.Idx → Elt F .bf16 :=
  k0_pay20 (aLast m c) (rd (acc2 m c) (Rect.unit (s := S1536x1536) ![0, 1024] ![1536, 512] inb_S1536x1536_S1536x512_0_1024))
    (rd (bO m c) (Rect.unit (s := S768x1536) ![640, 1024] ![128, 512] inb_S768x1536_S128x512_640_1024))
/-- Device `c`'s result. -/
def out (c : Dev nD) : S1536x1536.Idx → Elt F .bf16 := glue3 (out0 m c) (out1 m c) (out2 m c)

/-- The pieces of `B` make the whole. -/
theorem in_join (c : Dev nD) :
    iprop(inPay m c (chk (row c) 0) ∗ inPay m c (chk (row c) 1) ∗ inPay m c (chk (row c) 2) ∗ inPay m c (half (1 - row c))) ⊢ inPay m c Finset.univ := by
  unfold inPay
  iintro ⟨⟨HA0, HB0⟩, ⟨HA1, HB1⟩, ⟨HA2, HB2⟩, HA3, HB3⟩
  isplitl [HA0 HA1 HA2 HA3]
  · ihave H := (Entails.of_eq (pts_cut3 (ℓ := (c : Thread nD τ).loc cc0_scratch1) (half_cut (row c)) (half_disj _) (chk_disj _) fullShare (B m c)).symm) $$ [HA0 HA1 HA2]
    · isplitl [HA0]; · iexact HA0
      isplitl [HA1] <;> iassumption
    ihave H := (Entails.of_eq (pts_cut (ℓ := (c : Thread nD τ).loc cc0_scratch1) (halves_cut c) (halves_disj c) (q := fullShare) (f := B m c)).symm) $$ [H HA3]
    · isplitl [H] <;> iassumption
    iexact H
  · ihave H := (Entails.of_eq (pts_cut3 (ℓ := (c : Thread nD τ).loc main_arg1) (half_cut (row c)) (half_disj _) (chk_disj _) fullShare (B m c)).symm) $$ [HB0 HB1 HB2]
    · isplitl [HB0]; · iexact HB0
      isplitl [HB1] <;> iassumption
    ihave H := (Entails.of_eq (pts_cut (ℓ := (c : Thread nD τ).loc main_arg1) (halves_cut c) (halves_disj c) (q := fullShare) (f := B m c)).symm) $$ [H HB3]
    · isplitl [H] <;> iassumption
    iexact H

/-! ## Parts 3 and 4 -/

/-- The quantised block of `A`, and its first columns sent. -/
theorem part3 (c : Dev nD) (v2 v6 : BitVec 32) {Q : PUnit → sProp 𝕄} :
    iprop((St m K c 4 9 6 ∗ ptsE c cc0_scratch2 Finset.univ ∗ ptsE (yn c) cc0_scratch4 (acol 0 384))
        ∗ ((St m K c 5 10 5 ∗ (pts c cc0_scratch0 Finset.univ fullShare (A m c) ∗ pts c main_arg0 Finset.univ fullShare (A m c)) ∗ pts c cc0_scratch2 (acol 384 256) fullShare (aQ m c)
          ∗ pts c cc0_scratch2 (acol 640 128) fullShare (aQ m c)) -∗ Q ⟨⟩))
      ⊢ WP c (k0_part3 (F := F) (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v2 v6) Q := by
  rw [k0_part3_eq_skeleton]; unfold k0_part3_skel
  simp only [Prog.lift, Prog.bind_op, Prog.bind_ret, Prog.pure_eq_ret]
  iintro ⟨⟨HS, ⟨%f2, H2⟩, H4⟩, Hk⟩
  iapply (take_dma m c 5 (n := 4) (j := 9) (d := 6) S1536x768 .f32 (by decide) rfl rfl (by decide) (by decide)) $$ HS
  iintro ⟨HS, Hp⟩
  ihave Hp := (Entails.of_eq (show pay m c 5 false = iprop(pts c cc0_scratch0 Finset.univ fullShare (A m c) ∗ pts c main_arg0 Finset.univ fullShare (A m c)) from rfl)) $$ Hp
  icases Hp with ⟨H0, HA⟩
  iapply (wp_see c (M := Memref.whole cc0_scratch0) (r := Rect.unit (s := S1536x768) ![0, 0] ![1536, 768] inb_S1536x768_S1536x768_0_0) Finset.univ (Finset.subset_univ _) fullShare (A m c)
    (A m c) (rd_all (A m c) _)) $$ H0
  iintro H0
  iapply (wp_load_rect 𝒱₀ (c : Thread nD τ) none Set.univ (m := Memref.whole cc0_scratch2) (S := Finset.univ) (f := f2)
    (r := Rect.unit (s := S1536x768) ![0, 0] ![1536, 768] inb_S1536x768_S1536x768_0_0) (Finset.subset_univ _)) $$ H2
  iintro H2
  iapply (wp_fill c (M := Memref.whole cc0_scratch2) (r := Rect.unit (s := S1536x768) ![0, 0] ![1536, 768] inb_S1536x768_S1536x768_0_0) Finset.univ
    (set_slice (b := cc0_scratch2) (rect_all _)) f2 (aQ m c)
    ((rd_all (aQ m c) _).trans (shapeCast_self _ _).symm)) $$ H2
  iintro H2
  ihave H2 := (Entails.of_eq (pts_cut3 (ℓ := (c : Thread nD τ).loc cc0_scratch2) acol_cut acol_disj acol_disj' fullShare (aQ m c))) $$ H2
  icases H2 with ⟨H20, H21, H22⟩
  iapply (send_A m c 18 (n := 5) (j := 9) (d := 5) 0 384 ⟨k0_dev9 c, _⟩ (Fin.ext (k0_dev9_eq c)) rfl rfl rfl (by decide) (by decide) rfl (by decide) rfl rfl rfl) $$ [HS H20 H4]
  · isplitl [HS]; · iexact HS
    isplitl [H20] <;> iassumption
  iintro HS
  iapply (le_wp_ret _ _ _ _ _)
  iapply Hk
  isplitl [HS]; · iexact HS
  isplitl [H0 HA]
  · isplitl [H0] <;> iassumption
  isplitl [H21] <;> iassumption

/-- The other columns of `A` sent, and the first columns of the device's own product. -/
theorem part4 (c : Dev nD) (v2 v6 : BitVec 32) {Q : (Σ' (v104 : FVec F S1536x768 .bf16), FVec F S768x1536 .bf16) → sProp 𝕄} :
    iprop((St m K c 5 10 5 ∗ pts c cc0_scratch2 (acol 384 256) fullShare (aQ m c) ∗ pts c cc0_scratch2 (acol 640 128) fullShare (aQ m c)
          ∗ ptsE (yn c) cc0_scratch4 (acol 384 256) ∗ ptsE (yn c) cc0_scratch4 (acol 640 128)
          ∗ pts c cc0_scratch0 Finset.univ fullShare (A m c)
          ∗ inPay m c (chk (row c) 0) ∗ inPay m c (chk (row c) 1) ∗ inPay m c (chk (row c) 2)
          ∗ ptsE c cc0_scratch6 (third 0))
        ∗ ((St m K c 6 12 3 ∗ pts c cc0_scratch0 Finset.univ fullShare (A m c) ∗ inPay m c Finset.univ
          ∗ pts c cc0_scratch6 (third 0) fullShare (acc0 m c)) -∗ Q ⟨k0_pay8 (A m c), k0_pay9 (B m c)⟩))
      ⊢ WP c (k0_part4 (F := F) (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v2 v6) Q := by
  rw [k0_part4_eq_skeleton]; unfold k0_part4_skel
  simp only [Prog.lift, Prog.bind_op, Prog.bind_ret, Prog.pure_eq_ret]
  iintro ⟨⟨HS, H21, H22, H41, H42, H0, HP0, HP1, HP2, ⟨%f6, H6⟩⟩, Hk⟩
  iapply (send_A m c 19 (n := 5) (j := 10) (d := 4) 384 256 ⟨k0_dev10 c, _⟩ (Fin.ext (k0_dev10_eq c)) rfl rfl rfl (by decide) (by decide) rfl (by decide) rfl rfl rfl) $$ [HS H21 H41]
  · isplitl [HS]; · iexact HS
    isplitl [H21] <;> iassumption
  iintro HS
  iapply (send_A m c 20 (n := 5) (j := 11) (d := 3) 640 128 ⟨k0_dev11 c, _⟩ (Fin.ext (k0_dev11_eq c)) rfl rfl rfl (by decide) (by decide) rfl (by decide) rfl rfl rfl) $$ [HS H22 H42]
  · isplitl [HS]; · iexact HS
    isplitl [H22] <;> iassumption
  iintro HS
  iapply (take_dma m c 4 (n := 5) (j := 12) (d := 3) S384x1536 .f32 (by decide) rfl rfl (by decide) (by decide)) $$ HS
  iintro ⟨HS, Hp⟩
  ihave Hp := (Entails.of_eq (show pay m c 4 false = inPay m c (half (1 - row c)) from rfl)) $$ Hp
  ihave HB := (in_join m c) $$ [HP0 HP1 HP2 Hp]
  · isplitl [HP0]; · iexact HP0
    isplitl [HP1]; · iexact HP1
    isplitl [HP2] <;> iassumption
  unfold inPay
  icases HB with ⟨H1, HB⟩
  iapply (wp_see c (M := Memref.whole cc0_scratch0) (r := Rect.unit (s := S1536x768) ![0, 0] ![1536, 768] inb_S1536x768_S1536x768_0_0) Finset.univ (Finset.subset_univ _) fullShare (A m c)
    (A m c) (rd_all (A m c) _)) $$ H0
  iintro H0
  iapply (wp_see c (M := Memref.whole cc0_scratch1) (r := Rect.unit (s := S768x1536) ![0, 0] ![768, 1536] inb_S768x1536_S768x1536_0_0) Finset.univ (Finset.subset_univ _) fullShare (B m c)
    (B m c) (rd_all (B m c) _)) $$ H1
  iintro H1
  iapply (wp_load_rect 𝒱₀ (c : Thread nD τ) none Set.univ (m := Memref.whole cc0_scratch6) (S := third 0) (f := f6)
    (r := Rect.unit (s := S1536x1536) ![0, 0] ![1536, 512] inb_S1536x1536_S1536x512_0_0) (set_slice (b := cc0_scratch6) (rect_cols _)).subset) $$ H6
  iintro H6
  iapply (wp_fill c (M := Memref.whole cc0_scratch6) (r := Rect.unit (s := S1536x1536) ![0, 0] ![1536, 512] inb_S1536x1536_S1536x512_0_0) (third 0)
    (set_slice (b := cc0_scratch6) (rect_cols _)) f6 (acc0 m c) (rd_glue0 _ _ _ _)) $$ H6
  iintro H6
  iapply (le_wp_ret _ _ _ _ _)
  iapply Hk
  isplitl [HS]; · iexact HS
  isplitl [H0]; · iexact H0
  isplitl [H1 HB]
  · isplitl [H1] <;> iassumption
  iexact H6

end Cert.Exchange

end
-- ==== Proof.Body4.lean ====
/- The kernel's fifth and sixth parts: the other columns of the device's own product, while the received chunks of `B` are sent on along `x`. -/
module

public import proofs.«01_k».proof.Proof.Body3

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) {K : Dev nD × Fin 24 → ℕ}

/-- The first two received chunks of `B` are sent on, and the middle columns of the device's own product. -/
theorem part5 (c : Dev nD) (v2 v5 v6 v7 : BitVec 32) {Q : FVec F S768x512 .bf16 → sProp 𝕄} :
    iprop((St m K c 6 12 3 ∗ ptsE (xn c) cc0_scratch5 (chk (row c) 0) ∗ ptsE (xn c) cc0_scratch5 (chk (row c) 1) ∗ ptsE c cc0_scratch6 (third 1))
        ∗ ((St m K c 8 14 1 ∗ pts c cc0_scratch5 (chk (row c) 0) fullShare.left (bO m c) ∗ pts c cc0_scratch5 (chk (row c) 1) fullShare.left (bO m c)
          ∗ pts c cc0_scratch6 (third 1) fullShare (acc0 m c)) -∗ Q (k0_pay12 (k0_pay9 (B m c)))))
      ⊢ WP c (k0_part5 (F := F) (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v2 v5 v6 v7 (k0_pay8 (A m c)) (k0_pay9 (B m c))) Q := by
  rw [k0_part5_eq_skeleton]; unfold k0_part5_skel
  rcases row_cases c with hx | hx
  · have hp : k0_cond9 c = 1#1 ∧ k0_cond11 c = 1#1 := by revert hx; revert c; decide
    have hn : ¬ k0_cond10 c = 1#1 ∧ ¬ k0_cond12 c = 1#1 := by revert hx; revert c; decide
    simp only [dif_pos hp.1, dif_pos hp.2, dif_neg hn.1, dif_neg hn.2]
    simp only [Prog.lift, Prog.bind_op, Prog.bind_ret, Prog.pure_eq_ret]
    iintro ⟨⟨HS, HX0, HX1, ⟨%f6, H6⟩⟩, Hk⟩
    iapply (take_dma m c 9 (n := 6) (j := 12) (d := 3) S128x1536 .i8 (by decide) rfl rfl (by decide) (by decide)) $$ HS
    iintro ⟨HS, Hp⟩
    ihave Hp := (Entails.of_eq (show pay m c 9 false = pts c cc0_scratch5 (chk (row c) 0) fullShare (bO m c) from rfl)) $$ Hp
    iapply (send_X m c 12 (n := 7) (j := 12) (d := 2) 0 0 ⟨k0_dev12 c, _⟩ (Fin.ext (k0_dev12_eq c)) (by omega) (by decide) rfl rfl rfl (by decide) (by decide) rfl (by decide) rfl rfl rfl) $$ [HS Hp HX0]
    · isplitl [HS]; · iexact HS
      isplitl [Hp] <;> iassumption
    iintro ⟨HS, HL0⟩
    iapply (wp_load_rect 𝒱₀ (c : Thread nD τ) none Set.univ (m := Memref.whole cc0_scratch6) (S := third 1) (f := f6)
      (r := Rect.unit (s := S1536x1536) ![0, 512] ![1536, 512] inb_S1536x1536_S1536x512_0_512) (set_slice (b := cc0_scratch6) (rect_cols _)).subset) $$ H6
    iintro H6
    iapply (wp_fill c (M := Memref.whole cc0_scratch6) (r := Rect.unit (s := S1536x1536) ![0, 512] ![1536, 512] inb_S1536x1536_S1536x512_0_512) (third 1)
      (set_slice (b := cc0_scratch6) (rect_cols _)) f6 (acc0 m c) (rd_glue1 _ _ _ _)) $$ H6
    iintro H6
    iapply (take_dma m c 10 (n := 7) (j := 13) (d := 2) S128x1536 .i8 (by decide) rfl rfl (by decide) (by decide)) $$ HS
    iintro ⟨HS, Hp⟩
    ihave Hp := (Entails.of_eq (show pay m c 10 false = pts c cc0_scratch5 (chk (row c) 1) fullShare (bO m c) from rfl)) $$ Hp
    iapply (send_X m c 13 (n := 8) (j := 13) (d := 1) 1 128 ⟨k0_dev14 c, _⟩ (Fin.ext (k0_dev14_eq c)) (by omega) (by decide) rfl rfl rfl (by decide) (by decide) rfl (by decide) rfl rfl rfl) $$ [HS Hp HX1]
    · isplitl [HS]; · iexact HS
      isplitl [Hp] <;> iassumption
    iintro ⟨HS, HL1⟩
    iapply (le_wp_ret _ _ _ _ _)
    iapply Hk
    isplitl [HS]; · iexact HS
    isplitl [HL0]; · iexact HL0
    isplitl [HL1] <;> iassumption
  · have hp : k0_cond10 c = 1#1 ∧ k0_cond12 c = 1#1 := by revert hx; revert c; decide
    have hn : ¬ k0_cond9 c = 1#1 ∧ ¬ k0_cond11 c = 1#1 := by revert hx; revert c; decide
    simp only [dif_pos hp.1, dif_pos hp.2, dif_neg hn.1, dif_neg hn.2]
    simp only [Prog.lift, Prog.bind_op, Prog.bind_ret, Prog.pure_eq_ret]
    iintro ⟨⟨HS, HX0, HX1, ⟨%f6, H6⟩⟩, Hk⟩
    iapply (take_dma m c 9 (n := 6) (j := 12) (d := 3) S128x1536 .i8 (by decide) rfl rfl (by decide) (by decide)) $$ HS
    iintro ⟨HS, Hp⟩
    ihave Hp := (Entails.of_eq (show pay m c 9 false = pts c cc0_scratch5 (chk (row c) 0) fullShare (bO m c) from rfl)) $$ Hp
    iapply (send_X m c 12 (n := 7) (j := 12) (d := 2) 0 384 ⟨k0_dev13 c, _⟩ (Fin.ext (k0_dev13_eq c)) (by omega) (by decide) rfl rfl rfl (by decide) (by decide) rfl (by decide) rfl rfl rfl) $$ [HS Hp HX0]
    · isplitl [HS]; · iexact HS
      isplitl [Hp] <;> iassumption
    iintro ⟨HS, HL0⟩
    iapply (wp_load_rect 𝒱₀ (c : Thread nD τ) none Set.univ (m := Memref.whole cc0_scratch6) (S := third 1) (f := f6)
      (r := Rect.unit (s := S1536x1536) ![0, 512] ![1536, 512] inb_S1536x1536_S1536x512_0_512) (set_slice (b := cc0_scratch6) (rect_cols _)).subset) $$ H6
    iintro H6
    iapply (wp_fill c (M := Memref.whole cc0_scratch6) (r := Rect.unit (s := S1536x1536) ![0, 512] ![1536, 512] inb_S1536x1536_S1536x512_0_512) (third 1)
      (set_slice (b := cc0_scratch6) (rect_cols _)) f6 (acc0 m c) (rd_glue1 _ _ _ _)) $$ H6
    iintro H6
    iapply (take_dma m c 10 (n := 7) (j := 13) (d := 2) S128x1536 .i8 (by decide) rfl rfl (by decide) (by decide)) $$ HS
    iintro ⟨HS, Hp⟩
    ihave Hp := (Entails.of_eq (show pay m c 10 false = pts c cc0_scratch5 (chk (row c) 1) fullShare (bO m c) from rfl)) $$ Hp
    iapply (send_X m c 13 (n := 8) (j := 13) (d := 1) 1 512 ⟨k0_dev15 c, _⟩ (Fin.ext (k0_dev15_eq c)) (by omega) (by decide) rfl rfl rfl (by decide) (by decide) rfl (by decide) rfl rfl rfl) $$ [HS Hp HX1]
    · isplitl [HS]; · iexact HS
      isplitl [Hp] <;> iassumption
    iintro ⟨HS, HL1⟩
    iapply (le_wp_ret _ _ _ _ _)
    iapply Hk
    isplitl [HS]; · iexact HS
    isplitl [HL0]; · iexact HL0
    isplitl [HL1] <;> iassumption

/-- The last columns of the device's own product; the third received chunk of `B` is sent on, and the first chunk of the other half has come. -/
theorem part6 (c : Dev nD) (v2 v5 v6 v7 : BitVec 32) {Q : BitVec 32 → sProp 𝕄} :
    iprop((St m K c 8 14 1 ∗ ptsE (xn c) cc0_scratch5 (chk (row c) 2) ∗ ptsE c cc0_scratch6 (third 2))
        ∗ (∀ r, (St m K c 10 15 0 ∗ pts c cc0_scratch5 (chk (row c) 2) fullShare.left (bO m c) ∗ pts c cc0_scratch5 (chk (1 - row c) 0) fullShare (bO m c)
          ∗ pts c cc0_scratch6 (third 2) fullShare (acc0 m c)) -∗ Q r))
      ⊢ WP c (k0_part6 (F := F) (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v2 v5 v6 v7 (k0_pay8 (A m c)) (k0_pay12 (k0_pay9 (B m c)))) Q := by
  rw [k0_part6_eq_skeleton]; unfold k0_part6_skel
  rcases row_cases c with hx | hx
  · have hp : k0_cond13 c = 1#1 := by revert hx; revert c; decide
    have hn : ¬ k0_cond14 c = 1#1 := by revert hx; revert c; decide
    simp only [dif_pos hp, dif_neg hn]
    simp only [Prog.lift, Prog.bind_op, Prog.bind_ret, Prog.pure_eq_ret]
    iintro ⟨⟨HS, HX2, ⟨%f6, H6⟩⟩, Hk⟩
    iapply (wp_load_rect 𝒱₀ (c : Thread nD τ) none Set.univ (m := Memref.whole cc0_scratch6) (S := third 2) (f := f6)
      (r := Rect.unit (s := S1536x1536) ![0, 1024] ![1536, 512] inb_S1536x1536_S1536x512_0_1024) (set_slice (b := cc0_scratch6) (rect_cols _)).subset) $$ H6
    iintro H6
    iapply (wp_fill c (M := Memref.whole cc0_scratch6) (r := Rect.unit (s := S1536x1536) ![0, 1024] ![1536, 512] inb_S1536x1536_S1536x512_0_1024) (third 2)
      (set_slice (b := cc0_scratch6) (rect_cols _)) f6 (acc0 m c) (rd_glue2 _ _ _ _)) $$ H6
    iintro H6
    iapply (take_dma m c 11 (n := 8) (j := 14) (d := 1) S128x1536 .i8 (by decide) rfl rfl (by decide) (by decide)) $$ HS
    iintro ⟨HS, Hp⟩
    ihave Hp := (Entails.of_eq (show pay m c 11 false = pts c cc0_scratch5 (chk (row c) 2) fullShare (bO m c) from rfl)) $$ Hp
    iapply (send_X m c 14 (n := 9) (j := 14) (d := 0) 2 256 ⟨k0_dev16 c, _⟩ (Fin.ext (k0_dev16_eq c)) (by omega) (by decide) rfl rfl rfl (by decide) (by decide) rfl (by decide) rfl rfl rfl) $$ [HS Hp HX2]
    · isplitl [HS]; · iexact HS
      isplitl [Hp] <;> iassumption
    iintro ⟨HS, HL2⟩
    iapply (take_dma m c 15 (n := 9) (j := 15) (d := 0) S128x1536 .i8 (by decide) rfl rfl (by decide) (by decide)) $$ HS
    iintro ⟨HS, Hp⟩
    ihave Hp := (Entails.of_eq (show pay m c 15 false = pts c cc0_scratch5 (chk (1 - row c) 0) fullShare (bO m c) from rfl)) $$ Hp
    iapply (le_wp_ret _ _ _ _ _)
    iapply Hk
    isplitl [HS]; · iexact HS
    isplitl [HL2]; · iexact HL2
    isplitl [Hp] <;> iassumption
  · have hp : k0_cond14 c = 1#1 := by revert hx; revert c; decide
    have hn : ¬ k0_cond13 c = 1#1 := by revert hx; revert c; decide
    simp only [dif_pos hp, dif_neg hn]
    simp only [Prog.lift, Prog.bind_op, Prog.bind_ret, Prog.pure_eq_ret]
    iintro ⟨⟨HS, HX2, ⟨%f6, H6⟩⟩, Hk⟩
    iapply (wp_load_rect 𝒱₀ (c : Thread nD τ) none Set.univ (m := Memref.whole cc0_scratch6) (S := third 2) (f := f6)
      (r := Rect.unit (s := S1536x1536) ![0, 1024] ![1536, 512] inb_S1536x1536_S1536x512_0_1024) (set_slice (b := cc0_scratch6) (rect_cols _)).subset) $$ H6
    iintro H6
    iapply (wp_fill c (M := Memref.whole cc0_scratch6) (r := Rect.unit (s := S1536x1536) ![0, 1024] ![1536, 512] inb_S1536x1536_S1536x512_0_1024) (third 2)
      (set_slice (b := cc0_scratch6) (rect_cols _)) f6 (acc0 m c) (rd_glue2 _ _ _ _)) $$ H6
    iintro H6
    iapply (take_dma m c 11 (n := 8) (j := 14) (d := 1) S128x1536 .i8 (by decide) rfl rfl (by decide) (by decide)) $$ HS
    iintro ⟨HS, Hp⟩
    ihave Hp := (Entails.of_eq (show pay m c 11 false = pts c cc0_scratch5 (chk (row c) 2) fullShare (bO m c) from rfl)) $$ Hp
    iapply (send_X m c 14 (n := 9) (j := 14) (d := 0) 2 640 ⟨k0_dev17 c, _⟩ (Fin.ext (k0_dev17_eq c)) (by omega) (by decide) rfl rfl rfl (by decide) (by decide) rfl (by decide) rfl rfl rfl) $$ [HS Hp HX2]
    · isplitl [HS]; · iexact HS
      isplitl [Hp] <;> iassumption
    iintro ⟨HS, HL2⟩
    iapply (take_dma m c 15 (n := 9) (j := 15) (d := 0) S128x1536 .i8 (by decide) rfl rfl (by decide) (by decide)) $$ HS
    iintro ⟨HS, Hp⟩
    ihave Hp := (Entails.of_eq (show pay m c 15 false = pts c cc0_scratch5 (chk (1 - row c) 0) fullShare (bO m c) from rfl)) $$ Hp
    iapply (le_wp_ret _ _ _ _ _)
    iapply Hk
    isplitl [HS]; · iexact HS
    isplitl [HL2]; · iexact HL2
    isplitl [Hp] <;> iassumption

end Cert.Exchange

end
-- ==== Proof.Body5.lean ====
/- The kernel's seventh to tenth parts: the received product is added piece by piece, and the result is stored. -/
module

public import proofs.«01_k».proof.Proof.Body4

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) {K : Dev nD × Fin 24 → ℕ}

/-- The rest of the received `B` and the first columns of the received `A` have come. -/
theorem part7 (c : Dev nD) (v2 v5 v6 v7 v172 : BitVec 32) {Q : (Σ' (v196 : Vec F S1536x1536 .f32), FVec F S1536x384 .bf16) → sProp 𝕄} :
    iprop((St m K c 10 15 0 ∗ pts c cc0_scratch6 Finset.univ fullShare (acc0 m c)) ∗ ((St m K c 13 15 0 ∗ pts c cc0_scratch5 (chk (1 - row c) 1) fullShare (bO m c) ∗ pts c cc0_scratch5 (chk (1 - row c) 2) fullShare (bO m c) ∗ pts c cc0_scratch4 (acol 0 384) fullShare (aO m c) ∗ pts c cc0_scratch6 Finset.univ fullShare (acc0 m c))
        -∗ Q ⟨acc0 m c, k0_pay14 (rd (aO m c) (Rect.unit (s := S1536x768) ![0, 0] ![1536, 384] inb_S1536x768_S1536x384_0_0))⟩))
      ⊢ WP c (k0_part7 (F := F) (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 v2 v5 v6 v7 v172) Q := by
  rw [k0_part7_eq_skeleton]; unfold k0_part7_skel
  simp only [Prog.lift, Prog.bind_op, Prog.bind_ret, Prog.pure_eq_ret]
  iintro ⟨⟨HS, H6⟩, Hk⟩
  iapply (take_dma m c 16 (n := 10) (j := 15) (d := 0) S128x1536 .i8 (by decide) rfl rfl (by decide) (by decide)) $$ HS
  iintro ⟨HS, H51⟩
  ihave H51 := (Entails.of_eq (show pay m c 16 false = pts c cc0_scratch5 (chk (1 - row c) 1) fullShare (bO m c) from rfl)) $$ H51
  iapply (take_dma m c 17 (n := 11) (j := 15) (d := 0) S128x1536 .i8 (by decide) rfl rfl (by decide) (by decide)) $$ HS
  iintro ⟨HS, H52⟩
  ihave H52 := (Entails.of_eq (show pay m c 17 false = pts c cc0_scratch5 (chk (1 - row c) 2) fullShare (bO m c) from rfl)) $$ H52
  iapply (take_dma m c 21 (n := 12) (j := 15) (d := 0) S1536x384 .i8 (by decide) rfl rfl (by decide) (by decide)) $$ HS
  iintro ⟨HS, Hp⟩
  ihave Hp := (Entails.of_eq (show pay m c 21 false = pts c cc0_scratch4 (acol 0 384) fullShare (aO m c) from rfl)) $$ Hp
  iapply (wp_see c (M := Memref.whole cc0_scratch6) (r := Rect.unit (s := S1536x1536) ![0, 0] ![1536, 1536] inb_S1536x1536_S1536x1536_0_0) Finset.univ (Finset.subset_univ _) fullShare (acc0 m c)
    (acc0 m c) (rd_all (acc0 m c) _)) $$ H6
  iintro H6
  iapply (wp_see c (M := Memref.whole cc0_scratch4) (r := Rect.unit (s := S1536x768) ![0, 0] ![1536, 384] inb_S1536x768_S1536x384_0_0) (acol 0 384) (set_slice (b := cc0_scratch4) (rect_cols _)).subset fullShare (aO m c)
    (rd (aO m c) (Rect.unit (s := S1536x768) ![0, 0] ![1536, 384] inb_S1536x768_S1536x384_0_0)) rfl) $$ Hp
  iintro Hp
  iapply (le_wp_ret _ _ _ _ _)
  iapply Hk
  isplitl [HS]; · iexact HS
  isplitl [H51]; · iexact H51
  isplitl [H52]; · iexact H52
  isplitl [Hp]; · iexact Hp
  iexact H6

/-- The first two pieces of the received product are added. -/
theorem part8 (c : Dev nD) (v2 v6 : BitVec 32) {Q : BitVec 32 → sProp 𝕄} :
    iprop((St m K c 13 15 0 ∗ pts c cc0_scratch5 Finset.univ fullShare.left (bO m c) ∗ pts c cc0_scratch6 Finset.univ fullShare (acc0 m c)) ∗ (∀ r, (St m K c 14 15 0 ∗ pts c cc0_scratch5 Finset.univ fullShare.left (bO m c) ∗ pts c cc0_scratch6 Finset.univ fullShare (acc2 m c) ∗ pts c cc0_scratch4 (acol 384 256) fullShare (aO m c)) -∗ Q r))
      ⊢ WP c (k0_part8 (F := F) (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 v2 v6 (acc0 m c) (k0_pay14 (rd (aO m c) (Rect.unit (s := S1536x768) ![0, 0] ![1536, 384] inb_S1536x768_S1536x384_0_0)))) Q := by
  rw [k0_part8_eq_skeleton]; unfold k0_part8_skel
  simp only [Prog.lift, Prog.bind_op, Prog.bind_ret, Prog.pure_eq_ret]
  iintro ⟨⟨HS, H5, H6⟩, Hk⟩
  iapply (wp_see c (M := Memref.whole cc0_scratch5) (r := Rect.unit (s := S768x1536) ![0, 0] ![384, 1536] inb_S768x1536_S384x1536_0_0) Finset.univ (Finset.subset_univ _) fullShare.left (bO m c)
    (rd (bO m c) (Rect.unit (s := S768x1536) ![0, 0] ![384, 1536] inb_S768x1536_S384x1536_0_0)) rfl) $$ H5
  iintro H5
  iapply (wp_load_rect 𝒱₀ (c : Thread nD τ) none Set.univ (m := Memref.whole cc0_scratch6) (S := Finset.univ) (f := (acc0 m c))
    (r := Rect.unit (s := S1536x1536) ![0, 0] ![1536, 1536] inb_S1536x1536_S1536x1536_0_0) (Finset.subset_univ _)) $$ H6
  iintro H6
  iapply (wp_fill c (M := Memref.whole cc0_scratch6) (r := Rect.unit (s := S1536x1536) ![0, 0] ![1536, 1536] inb_S1536x1536_S1536x1536_0_0) Finset.univ
    (set_slice (b := cc0_scratch6) (rect_all _)) (acc0 m c) (acc1 m c) (rd_all (acc1 m c) _)) $$ H6
  iintro H6
  iapply (take_dma m c 22 (n := 13) (j := 15) (d := 0) S1536x256 .i8 (by decide) rfl rfl (by decide) (by decide)) $$ HS
  iintro ⟨HS, Hp⟩
  ihave Hp := (Entails.of_eq (show pay m c 22 false = pts c cc0_scratch4 (acol 384 256) fullShare (aO m c) from rfl)) $$ Hp
  iapply (wp_see c (M := Memref.whole cc0_scratch6) (r := Rect.unit (s := S1536x1536) ![0, 0] ![1536, 1536] inb_S1536x1536_S1536x1536_0_0) Finset.univ (Finset.subset_univ _) fullShare (acc1 m c)
    (acc1 m c) (rd_all (acc1 m c) _)) $$ H6
  iintro H6
  iapply (wp_see c (M := Memref.whole cc0_scratch4) (r := Rect.unit (s := S1536x768) ![0, 384] ![1536, 256] inb_S1536x768_S1536x256_0_384) (acol 384 256) (set_slice (b := cc0_scratch4) (rect_cols _)).subset fullShare (aO m c)
    (rd (aO m c) (Rect.unit (s := S1536x768) ![0, 384] ![1536, 256] inb_S1536x768_S1536x256_0_384)) rfl) $$ Hp
  iintro Hp
  iapply (wp_see c (M := Memref.whole cc0_scratch5) (r := Rect.unit (s := S768x1536) ![384, 0] ![256, 1536] inb_S768x1536_S256x1536_384_0) Finset.univ (Finset.subset_univ _) fullShare.left (bO m c)
    (rd (bO m c) (Rect.unit (s := S768x1536) ![384, 0] ![256, 1536] inb_S768x1536_S256x1536_384_0)) rfl) $$ H5
  iintro H5
  iapply (wp_load_rect 𝒱₀ (c : Thread nD τ) none Set.univ (m := Memref.whole cc0_scratch6) (S := Finset.univ) (f := (acc1 m c))
    (r := Rect.unit (s := S1536x1536) ![0, 0] ![1536, 1536] inb_S1536x1536_S1536x1536_0_0) (Finset.subset_univ _)) $$ H6
  iintro H6
  iapply (wp_fill c (M := Memref.whole cc0_scratch6) (r := Rect.unit (s := S1536x1536) ![0, 0] ![1536, 1536] inb_S1536x1536_S1536x1536_0_0) Finset.univ
    (set_slice (b := cc0_scratch6) (rect_all _)) (acc1 m c) (acc2 m c) (rd_all (acc2 m c) _)) $$ H6
  iintro H6
  iapply (le_wp_ret _ _ _ _ _)
  iapply Hk
  isplitl [HS]; · iexact HS
  isplitl [H5]; · iexact H5
  isplitl [H6]; · iexact H6
  iexact Hp

/-- The last piece of the received product is added, into the first two blocks of the result's columns. -/
theorem part9 (c : Dev nD) (v6 v229 : BitVec 32) {Q : FVec F S1536x512 .bf16 → sProp 𝕄} :
    iprop((St m K c 14 15 0 ∗ pts c cc0_scratch5 Finset.univ fullShare.left (bO m c) ∗ pts c cc0_scratch6 Finset.univ fullShare (acc2 m c) ∗ ptsE c cc0_stg0_0 (third 0) ∗ ptsE c cc0_stg0_0 (third 1))
        ∗ ((St m K c 15 15 0 ∗ pts c cc0_scratch5 Finset.univ fullShare.left (bO m c) ∗ pts c cc0_scratch6 Finset.univ fullShare (acc2 m c) ∗ pts c cc0_scratch4 (acol 640 128) fullShare (aO m c) ∗ pts c cc0_stg0_0 (third 0) fullShare (out m c) ∗ pts c cc0_stg0_0 (third 1) fullShare (out m c)) -∗ Q (out2 m c)))
      ⊢ WP c (k0_part9 (F := F) (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 v6 v229) Q := by
  unfold out2
  rw [k0_part9_eq_skeleton]; unfold k0_part9_skel
  simp only [Prog.lift, Prog.bind_op, Prog.bind_ret, Prog.pure_eq_ret]
  iintro ⟨⟨HS, H5, H6, ⟨%f0, HO0⟩, ⟨%f1, HO1⟩⟩, Hk⟩
  iapply (take_dma m c 23 (n := 14) (j := 15) (d := 0) S1536x128 .i8 (by decide) rfl rfl (by decide) (by decide)) $$ HS
  iintro ⟨HS, Hp⟩
  ihave Hp := (Entails.of_eq (show pay m c 23 false = pts c cc0_scratch4 (acol 640 128) fullShare (aO m c) from rfl)) $$ Hp
  iapply (wp_see c (M := Memref.whole cc0_scratch4) (r := Rect.unit (s := S1536x768) ![0, 640] ![1536, 128] inb_S1536x768_S1536x128_0_640) (acol 640 128) (set_slice (b := cc0_scratch4) (rect_cols _)).subset fullShare (aO m c)
    (aLast m c) rfl) $$ Hp
  iintro Hp
  iapply (wp_see c (M := Memref.whole cc0_scratch6) (r := Rect.unit (s := S1536x1536) ![0, 0] ![1536, 512] inb_S1536x1536_S1536x512_0_0) Finset.univ (Finset.subset_univ _) fullShare (acc2 m c)
    (rd (acc2 m c) (Rect.unit (s := S1536x1536) ![0, 0] ![1536, 512] inb_S1536x1536_S1536x512_0_0)) rfl) $$ H6
  iintro H6
  iapply (wp_see c (M := Memref.whole cc0_scratch5) (r := Rect.unit (s := S768x1536) ![640, 0] ![128, 512] inb_S768x1536_S128x512_640_0) Finset.univ (Finset.subset_univ _) fullShare.left (bO m c)
    (rd (bO m c) (Rect.unit (s := S768x1536) ![640, 0] ![128, 512] inb_S768x1536_S128x512_640_0)) rfl) $$ H5
  iintro H5
  iapply (wp_load_rect 𝒱₀ (c : Thread nD τ) none Set.univ (m := Memref.whole cc0_stg0_0) (S := third 0) (f := f0)
    (r := Rect.unit (s := S1536x1536) ![0, 0] ![1536, 512] inb_S1536x1536_S1536x512_0_0) (set_slice (b := cc0_stg0_0) (rect_cols _)).subset) $$ HO0
  iintro HO0
  iapply (wp_fill c (M := Memref.whole cc0_stg0_0) (r := Rect.unit (s := S1536x1536) ![0, 0] ![1536, 512] inb_S1536x1536_S1536x512_0_0) (third 0)
    (set_slice (b := cc0_stg0_0) (rect_cols _)) f0 (out m c) (rd_glue0 _ _ _ _)) $$ HO0
  iintro HO0
  iapply (wp_see c (M := Memref.whole cc0_scratch6) (r := Rect.unit (s := S1536x1536) ![0, 512] ![1536, 512] inb_S1536x1536_S1536x512_0_512) Finset.univ (Finset.subset_univ _) fullShare (acc2 m c)
    (rd (acc2 m c) (Rect.unit (s := S1536x1536) ![0, 512] ![1536, 512] inb_S1536x1536_S1536x512_0_512)) rfl) $$ H6
  iintro H6
  iapply (wp_see c (M := Memref.whole cc0_scratch5) (r := Rect.unit (s := S768x1536) ![640, 512] ![128, 512] inb_S768x1536_S128x512_640_512) Finset.univ (Finset.subset_univ _) fullShare.left (bO m c)
    (rd (bO m c) (Rect.unit (s := S768x1536) ![640, 512] ![128, 512] inb_S768x1536_S128x512_640_512)) rfl) $$ H5
  iintro H5
  iapply (wp_load_rect 𝒱₀ (c : Thread nD τ) none Set.univ (m := Memref.whole cc0_stg0_0) (S := third 1) (f := f1)
    (r := Rect.unit (s := S1536x1536) ![0, 512] ![1536, 512] inb_S1536x1536_S1536x512_0_512) (set_slice (b := cc0_stg0_0) (rect_cols _)).subset) $$ HO1
  iintro HO1
  iapply (wp_fill c (M := Memref.whole cc0_stg0_0) (r := Rect.unit (s := S1536x1536) ![0, 512] ![1536, 512] inb_S1536x1536_S1536x512_0_512) (third 1)
    (set_slice (b := cc0_stg0_0) (rect_cols _)) f1 (out m c) (rd_glue1 _ _ _ _)) $$ HO1
  iintro HO1
  iapply (wp_see c (M := Memref.whole cc0_scratch6) (r := Rect.unit (s := S1536x1536) ![0, 1024] ![1536, 512] inb_S1536x1536_S1536x512_0_1024) Finset.univ (Finset.subset_univ _) fullShare (acc2 m c)
    (rd (acc2 m c) (Rect.unit (s := S1536x1536) ![0, 1024] ![1536, 512] inb_S1536x1536_S1536x512_0_1024)) rfl) $$ H6
  iintro H6
  iapply (wp_see c (M := Memref.whole cc0_scratch5) (r := Rect.unit (s := S768x1536) ![640, 1024] ![128, 512] inb_S768x1536_S128x512_640_1024) Finset.univ (Finset.subset_univ _) fullShare.left (bO m c)
    (rd (bO m c) (Rect.unit (s := S768x1536) ![640, 1024] ![128, 512] inb_S768x1536_S128x512_640_1024)) rfl) $$ H5
  iintro H5
  iapply (le_wp_ret _ _ _ _ _)
  iapply Hk
  isplitl [HS]; · iexact HS
  isplitl [H5]; · iexact H5
  isplitl [H6]; · iexact H6
  isplitl [Hp]; · iexact Hp
  isplitl [HO0]; · iexact HO0
  iexact HO1

/-- The last block of the result's columns, and the first waits for the copies sent. -/
theorem part10 (c : Dev nD) {Q : PUnit → sProp 𝕄} :
    iprop((St m K c 15 15 0 ∗ ptsE c cc0_stg0_0 (third 2))
        ∗ ((St m K c 19 15 0 ∗ pts c cc0_stg0_0 (third 2) fullShare (out m c) ∗ pay m c 6 false ∗ pay m c 12 false ∗ pay m c 7 false ∗ pay m c 13 false) -∗ Q ⟨⟩))
      ⊢ WP c (k0_part10 (F := F) (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 (out2 m c)) Q := by
  rw [k0_part10_eq_skeleton]; unfold k0_part10_skel
  simp only [Prog.lift, Prog.bind_op, Prog.bind_ret, Prog.pure_eq_ret]
  iintro ⟨⟨HS, ⟨%f2, HO2⟩⟩, Hk⟩
  iapply (wp_load_rect 𝒱₀ (c : Thread nD τ) none Set.univ (m := Memref.whole cc0_stg0_0) (S := third 2) (f := f2)
    (r := Rect.unit (s := S1536x1536) ![0, 1024] ![1536, 512] inb_S1536x1536_S1536x512_0_1024) (set_slice (b := cc0_stg0_0) (rect_cols _)).subset) $$ HO2
  iintro HO2
  iapply (wp_fill c (M := Memref.whole cc0_stg0_0) (r := Rect.unit (s := S1536x1536) ![0, 1024] ![1536, 512] inb_S1536x1536_S1536x512_0_1024) (third 2)
    (set_slice (b := cc0_stg0_0) (rect_cols _)) f2 (out m c) (rd_glue2 _ _ _ _)) $$ HO2
  iintro HO2
  iapply (take_dma m c 6 (n := 15) (j := 15) (d := 0) S128x1536 .i8 (by decide) rfl rfl (by decide) (by decide)) $$ HS
  iintro ⟨HS, H6⟩
  iapply (take_dma m c 12 (n := 16) (j := 15) (d := 0) S128x1536 .i8 (by decide) rfl rfl (by decide) (by decide)) $$ HS
  iintro ⟨HS, H12⟩
  iapply (take_dma m c 7 (n := 17) (j := 15) (d := 0) S128x1536 .i8 (by decide) rfl rfl (by decide) (by decide)) $$ HS
  iintro ⟨HS, H7⟩
  iapply (take_dma m c 13 (n := 18) (j := 15) (d := 0) S128x1536 .i8 (by decide) rfl rfl (by decide) (by decide)) $$ HS
  iintro ⟨HS, H13⟩
  iapply (le_wp_ret _ _ _ _ _)
  iapply Hk
  isplitl [HS]; · iexact HS
  isplitl [HO2]; · iexact HO2
  isplitl [H6]; · iexact H6
  isplitl [H12]; · iexact H12
  isplitl [H7]; · iexact H7
  iexact H13

end Cert.Exchange

end
-- ==== Proof.Body6.lean ====
/- The whole kernel on one device: its parts in order, from the device's blocks and buffers to its result. -/
module

public import proofs.«01_k».proof.Proof.Body1
public import proofs.«01_k».proof.Proof.Body5

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) {K : Dev nD × Fin 24 → ℕ}

theorem WP_bind (c : Dev nD) {α β : Type} (p : Prog (TpuEff nD τ sig (Elt F) Λ₀ .tc) α) (k : α → Prog (TpuEff nD τ sig (Elt F) Λ₀ .tc) β) (Q : β → sProp 𝕄) :
    WP c (p >>= k) Q = WP c p (fun a => WP c (k a) Q) := wp_bind _ _ _ _ _ _

omit [FloatOps F] in
theorem ptsE_cut {ℓ : Loc nD τ sig} {U S T : Finset (Idx ℓ)} (h : U = S ∪ T) (hd : Disjoint S T) :
    iprop(∃ f : Buf (Elt F) ℓ, ℓ ↦[U]{fullShare} f : sProp 𝕄)
      ⊢ iprop((∃ f : Buf (Elt F) ℓ, ℓ ↦[S]{fullShare} f) ∗ (∃ f : Buf (Elt F) ℓ, ℓ ↦[T]{fullShare} f)) := by
  iintro ⟨%f, H⟩
  ihave H := (Entails.of_eq (pts_cut h hd)) $$ H
  icases H with ⟨H1, H2⟩
  isplitl [H1] <;> iexists f <;> iassumption

/-- The block of `B` and the memory that it is copied to, as the four copies take them. -/
theorem bIn_cut (c : Dev nD) :
    iprop(pts c main_arg1 Finset.univ fullShare (B m c) ∗ ptsE c cc0_scratch1 Finset.univ)
      ⊢ iprop(bIn m c (chk (row c) 0) ∗ bIn m c (chk (row c) 1) ∗ bIn m c (chk (row c) 2) ∗ bIn m c (half (1 - row c))) := by
  unfold bIn
  iintro ⟨H, HE⟩
  ihave H := (Entails.of_eq (pts_cut (ℓ := (c : Thread nD τ).loc main_arg1) (halves_cut c) (halves_disj c))) $$ H
  icases H with ⟨H, H3⟩
  ihave H := (Entails.of_eq (pts_cut3 (ℓ := (c : Thread nD τ).loc main_arg1) (half_cut (row c)) (half_disj _) (chk_disj _) fullShare (B m c))) $$ H
  icases H with ⟨H0, H1, H2⟩
  ihave HE := (ptsE_cut (F := F) (ℓ := (c : Thread nD τ).loc cc0_scratch1) (halves_cut c) (halves_disj c)) $$ HE
  icases HE with ⟨HE, HE3⟩
  ihave HE := (ptsE_cut3 (F := F) (ℓ := (c : Thread nD τ).loc cc0_scratch1) (half_cut (row c)) (half_disj _) (chk_disj _)) $$ HE
  icases HE with ⟨HE0, HE1, HE2⟩
  isplitl [H0 HE0]
  · isplitl [H0] <;> iassumption
  isplitl [H1 HE1]
  · isplitl [H1] <;> iassumption
  isplitl [H2 HE2]
  · isplitl [H2] <;> iassumption
  isplitl [H3] <;> iassumption

/-- The received `B`, as far as it may be read: one share of the half that was sent on, and the other half. -/
theorem bO_join (c : Dev nD) :
    iprop(pts c cc0_scratch5 (chk (row c) 0) fullShare.left (bO m c) ∗ pts c cc0_scratch5 (chk (row c) 1) fullShare.left (bO m c) ∗ pts c cc0_scratch5 (chk (row c) 2) fullShare.left (bO m c) ∗ pts c cc0_scratch5 (chk (1 - row c) 0) fullShare (bO m c) ∗ pts c cc0_scratch5 (chk (1 - row c) 1) fullShare (bO m c) ∗ pts c cc0_scratch5 (chk (1 - row c) 2) fullShare (bO m c))
      ⊢ iprop(pts c cc0_scratch5 Finset.univ fullShare.left (bO m c) ∗ pts c cc0_scratch5 (half (1 - row c)) fullShare.right (bO m c)) := by
  iintro ⟨HL0, HL1, HL2, H0, H1, H2⟩
  ihave HL := (Entails.of_eq (pts_cut3 (ℓ := (c : Thread nD τ).loc cc0_scratch5) (half_cut (row c)) (half_disj _) (chk_disj _) fullShare.left (bO m c)).symm) $$ [HL0 HL1 HL2]
  · isplitl [HL0]; · iexact HL0
    isplitl [HL1] <;> iassumption
  ihave H := (Entails.of_eq (pts_cut3 (ℓ := (c : Thread nD τ).loc cc0_scratch5) (half_cut (1 - row c)) (half_disj _) (chk_disj _) fullShare (bO m c)).symm) $$ [H0 H1 H2]
  · isplitl [H0]; · iexact H0
    isplitl [H1] <;> iassumption
  ihave H := (pointsTo_share (PosShare.mem_left_op_right fullShare)).1 $$ H
  icases H with ⟨HA, HB⟩
  isplitl [HL HA]
  · ihave H := (Entails.of_eq (pts_cut (ℓ := (c : Thread nD τ).loc cc0_scratch5) (halves_cut c) (halves_disj c) (q := fullShare.left) (f := bO m c)).symm) $$ [HL HA]
    · isplitl [HL] <;> iassumption
    iexact H
  · iexact HB

/-- With the shares that were lent to the copies, it is whole. -/
theorem bO_whole (c : Dev nD) :
    iprop(pts c cc0_scratch5 Finset.univ fullShare.left (bO m c) ∗ pts c cc0_scratch5 (half (1 - row c)) fullShare.right (bO m c) ∗ pts c cc0_scratch5 (chk (row c) 0) fullShare.right (bO m c) ∗ pts c cc0_scratch5 (chk (row c) 1) fullShare.right (bO m c) ∗ pts c cc0_scratch5 (chk (row c) 2) fullShare.right (bO m c))
      ⊢ pts c cc0_scratch5 Finset.univ fullShare (bO m c) := by
  iintro ⟨HL, HR, H0, H1, H2⟩
  ihave H := (Entails.of_eq (pts_cut3 (ℓ := (c : Thread nD τ).loc cc0_scratch5) (half_cut (row c)) (half_disj _) (chk_disj _) fullShare.right (bO m c)).symm) $$ [H0 H1 H2]
  · isplitl [H0]; · iexact H0
    isplitl [H1] <;> iassumption
  ihave H := (Entails.of_eq (pts_cut (ℓ := (c : Thread nD τ).loc cc0_scratch5) (halves_cut c) (halves_disj c) (q := fullShare.right) (f := bO m c)).symm) $$ [H HR]
  · isplitl [H] <;> iassumption
  iapply (pointsTo_share (PosShare.mem_left_op_right fullShare)).2
  isplitl [HL] <;> iassumption

/-- What a device's kernel starts from: its blocks of `A` and `B`, its buffers and the result's memory. -/
def before (c : Dev nD) : sProp 𝕄 :=
  iprop(pts c main_arg0 Finset.univ fullShare (A m c) ∗ pts c main_arg1 Finset.univ fullShare (B m c) ∗ ptsE c cc0_scratch0 Finset.univ
    ∗ ptsE c cc0_scratch1 Finset.univ ∗ ptsE c cc0_scratch2 Finset.univ ∗ ptsE c cc0_scratch3 Finset.univ ∗ ptsE c cc0_scratch4 Finset.univ
    ∗ ptsE c cc0_scratch5 Finset.univ ∗ ptsE c cc0_scratch6 Finset.univ ∗ ptsE c cc0_stg0_0 Finset.univ)
/-- What it ends with: the blocks unchanged, and the result. -/
def after (c : Dev nD) : sProp 𝕄 :=
  iprop(pts c main_arg0 Finset.univ fullShare (A m c) ∗ pts c main_arg1 Finset.univ fullShare (B m c) ∗ ptsE c cc0_scratch0 Finset.univ
    ∗ ptsE c cc0_scratch1 Finset.univ ∗ ptsE c cc0_scratch2 Finset.univ ∗ ptsE c cc0_scratch3 Finset.univ ∗ ptsE c cc0_scratch4 Finset.univ
    ∗ ptsE c cc0_scratch5 Finset.univ ∗ ptsE c cc0_scratch6 Finset.univ ∗ pts c cc0_stg0_0 Finset.univ fullShare (out m c))

/-- The whole kernel on one device, but for its last wait. -/
theorem part11 (c : Dev nD) {Q : PUnit → sProp 𝕄} :
    iprop((St m K c 0 1 11 ∗ before m c)
        ∗ ((St m K c 23 15 0 ∗ (pay m c 20 false -∗ after m c)) -∗ Q ⟨⟩))
      ⊢ WP c (k0_part11 (F := F) (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13) Q := by
  rw [k0_part11_eq_skeleton]; unfold k0_part11_skel before
  iintro ⟨⟨HS, HA0, HA1, HC0, HC1, HC2, HC3, HC4, HC5, HC6, HO⟩, Hk⟩
  ihave HB := (bIn_cut m c) $$ [HA1 HC1]
  · isplitl [HA1] <;> iassumption
  ihave HC5 := (ptsE_cut (F := F) (ℓ := (c : Thread nD τ).loc cc0_scratch5) (halves_cut c) (halves_disj c)) $$ HC5
  icases HC5 with ⟨HC5, HC5'⟩
  rw [WP_bind]
  iapply (part1 m c)
  isplitl [HS HB]
  · isplitl [HS] <;> iassumption
  isplitl [HA0 HC0 HC4 HC5 HC5']
  · isplitl [HA0]; · iexact HA0
    isplitl [HC0]; · iexact HC0
    isplitl [HC4]; · iexact HC4
    isplitl [HC5] <;> iassumption
  iintro %r %hr ⟨HS, HG⟩
  obtain ⟨d0, v2, v5, v6, v7⟩ := r
  obtain rfl : d0 = c := hr
  dsimp only
  unfold granted
  icases HG with ⟨⟨HY4, HY5⟩, HX5⟩
  ihave HY4 := (ptsE_cut3 (F := F) (ℓ := (yn d0 : Thread nD τ).loc cc0_scratch4) acol_cut acol_disj acol_disj') $$ HY4
  icases HY4 with ⟨HY40, HY41, HY42⟩
  ihave HX5 := (ptsE_cut3 (F := F) (ℓ := (xn d0 : Thread nD τ).loc cc0_scratch5) (half_cut (row d0)) (half_disj _) (chk_disj _)) $$ HX5
  icases HX5 with ⟨HX50, HX51, HX52⟩
  ihave HC6 := (ptsE_cut3 (F := F) (ℓ := (d0 : Thread nD τ).loc cc0_scratch6) third_cut third_disj third_disj') $$ HC6
  icases HC6 with ⟨H60, H61, H62⟩
  ihave HO := (ptsE_cut3 (F := F) (ℓ := (d0 : Thread nD τ).loc cc0_stg0_0) third_cut third_disj third_disj') $$ HO
  icases HO with ⟨HO0, HO1, HO2⟩
  rw [WP_bind]
  iapply (part2 m d0 v2 v6)
  isplitl [HS HC3 HY5]
  · isplitl [HS]; · iexact HS
    isplitl [HC3]; · iexact HC3
    iexact HY5
  iintro ⟨HS, HP0, HP1, HP2⟩
  rw [WP_bind]
  iapply (part3 m d0 v2 v6)
  isplitl [HS HC2 HY40]
  · isplitl [HS]; · iexact HS
    isplitl [HC2]; · iexact HC2
    iexact HY40
  iintro ⟨HS, ⟨HC0, HA0⟩, H21, H22⟩
  rw [WP_bind]
  iapply (part4 m d0 v2 v6)
  isplitl [HS H21 H22 HY41 HY42 HC0 HP0 HP1 HP2 H60]
  · isplitl [HS]; · iexact HS
    isplitl [H21]; · iexact H21
    isplitl [H22]; · iexact H22
    isplitl [HY41]; · iexact HY41
    isplitl [HY42]; · iexact HY42
    isplitl [HC0]; · iexact HC0
    isplitl [HP0]; · iexact HP0
    isplitl [HP1]; · iexact HP1
    isplitl [HP2]; · iexact HP2
    iexact H60
  iintro ⟨HS, HC0, HB, H60⟩
  dsimp only
  rw [WP_bind]
  iapply (part5 m d0 v2 v5 v6 v7)
  isplitl [HS HX50 HX51 H61]
  · isplitl [HS]; · iexact HS
    isplitl [HX50]; · iexact HX50
    isplitl [HX51]; · iexact HX51
    iexact H61
  iintro ⟨HS, HL0, HL1, H61⟩
  rw [WP_bind]
  iapply (part6 m d0 v2 v5 v6 v7)
  isplitl [HS HX52 H62]
  · isplitl [HS]; · iexact HS
    isplitl [HX52]; · iexact HX52
    iexact H62
  iintro %v172 ⟨HS, HL2, H50, H62⟩
  ihave H6 := (Entails.of_eq (pts_cut3 (ℓ := (d0 : Thread nD τ).loc cc0_scratch6) third_cut third_disj third_disj' fullShare (acc0 m d0)).symm) $$ [H60 H61 H62]
  · isplitl [H60]; · iexact H60
    isplitl [H61]; · iexact H61
    iexact H62
  rw [WP_bind]
  iapply (part7 m d0 v2 v5 v6 v7 v172)
  isplitl [HS H6]
  · isplitl [HS]; · iexact HS
    iexact H6
  iintro ⟨HS, H51, H52, H40, H6⟩
  dsimp only
  ihave H5 := (bO_join m d0) $$ [HL0 HL1 HL2 H50 H51 H52]
  · isplitl [HL0]; · iexact HL0
    isplitl [HL1]; · iexact HL1
    isplitl [HL2]; · iexact HL2
    isplitl [H50]; · iexact H50
    isplitl [H51]; · iexact H51
    iexact H52
  icases H5 with ⟨H5, H5r⟩
  rw [WP_bind]
  iapply (part8 m d0 v2 v6)
  isplitl [HS H5 H6]
  · isplitl [HS]; · iexact HS
    isplitl [H5]; · iexact H5
    iexact H6
  iintro %v229 ⟨HS, H5, H6, H41⟩
  rw [WP_bind]
  iapply (part9 m d0 v6 v229)
  isplitl [HS H5 H6 HO0 HO1]
  · isplitl [HS]; · iexact HS
    isplitl [H5]; · iexact H5
    isplitl [H6]; · iexact H6
    isplitl [HO0]; · iexact HO0
    iexact HO1
  iintro ⟨HS, H5, H6, H42, HO0, HO1⟩
  rw [WP_bind]
  iapply (part10 m d0)
  isplitl [HS HO2]
  · isplitl [HS]; · iexact HS
    iexact HO2
  iintro ⟨HS, HO2, HQ6, HQ12, HQ7, HQ13⟩
  simp only [Prog.lift, Prog.bind_op, Prog.bind_ret, Prog.pure_eq_ret]
  iapply (take_dma m d0 8 (n := 19) (j := 15) (d := 0) S128x1536 .i8 (by decide) rfl rfl (by decide) (by decide)) $$ HS
  iintro ⟨HS, HQ8⟩
  iapply (take_dma m d0 14 (n := 20) (j := 15) (d := 0) S128x1536 .i8 (by decide) rfl rfl (by decide) (by decide)) $$ HS
  iintro ⟨HS, HQ14⟩
  iapply (take_dma m d0 18 (n := 21) (j := 15) (d := 0) S1536x384 .i8 (by decide) rfl rfl (by decide) (by decide)) $$ HS
  iintro ⟨HS, HQ18⟩
  iapply (take_dma m d0 19 (n := 22) (j := 15) (d := 0) S1536x256 .i8 (by decide) rfl rfl (by decide) (by decide)) $$ HS
  iintro ⟨HS, HQ19⟩
  iapply (le_wp_ret _ _ _ _ _)
  iapply Hk
  isplitl [HS]; · iexact HS
  iintro HQ20
  ihave HQ18 := (Entails.of_eq (show pay m d0 18 false = pts d0 cc0_scratch2 (acol 0 384) fullShare (aQ m d0) from rfl)) $$ HQ18
  ihave HQ19 := (Entails.of_eq (show pay m d0 19 false = pts d0 cc0_scratch2 (acol 384 256) fullShare (aQ m d0) from rfl)) $$ HQ19
  ihave HQ20 := (Entails.of_eq (show pay m d0 20 false = pts d0 cc0_scratch2 (acol 640 128) fullShare (aQ m d0) from rfl)) $$ HQ20
  ihave HQ6 := (Entails.of_eq (show pay m d0 6 false = pts d0 cc0_scratch3 (snd 0) fullShare (bS m d0) from rfl)) $$ HQ6
  ihave HQ7 := (Entails.of_eq (show pay m d0 7 false = pts d0 cc0_scratch3 (snd 1) fullShare (bS m d0) from rfl)) $$ HQ7
  ihave HQ8 := (Entails.of_eq (show pay m d0 8 false = pts d0 cc0_scratch3 (snd 2) fullShare (bS m d0) from rfl)) $$ HQ8
  ihave HQ12 := (Entails.of_eq (show pay m d0 12 false = pts d0 cc0_scratch5 (chk (row d0) 0) fullShare.right (bO m d0) from rfl)) $$ HQ12
  ihave HQ13 := (Entails.of_eq (show pay m d0 13 false = pts d0 cc0_scratch5 (chk (row d0) 1) fullShare.right (bO m d0) from rfl)) $$ HQ13
  ihave HQ14 := (Entails.of_eq (show pay m d0 14 false = pts d0 cc0_scratch5 (chk (row d0) 2) fullShare.right (bO m d0) from rfl)) $$ HQ14
  unfold after
  isplitl [HA0]; · iexact HA0
  unfold inPay
  icases HB with ⟨HC1, HA1⟩
  isplitl [HA1]; · iexact HA1
  isplitl [HC0]; · iexists (A m d0); iexact HC0
  isplitl [HC1]; · iexists (B m d0); iexact HC1
  isplitl [HQ18 HQ19 HQ20]
  · iexists (aQ m d0)
    iapply (Entails.of_eq (pts_cut3 (ℓ := (d0 : Thread nD τ).loc cc0_scratch2) acol_cut acol_disj acol_disj' fullShare (aQ m d0)).symm)
    isplitl [HQ18]; · iexact HQ18
    isplitl [HQ19]; · iexact HQ19
    iexact HQ20
  isplitl [HQ6 HQ7 HQ8]
  · iexists (bS m d0)
    iapply (Entails.of_eq (pts_cut3 (ℓ := (d0 : Thread nD τ).loc cc0_scratch3) snd_cut snd_disj snd_disj' fullShare (bS m d0)).symm)
    isplitl [HQ6]; · iexact HQ6
    isplitl [HQ7]; · iexact HQ7
    iexact HQ8
  isplitl [H40 H41 H42]
  · iexists (aO m d0)
    iapply (Entails.of_eq (pts_cut3 (ℓ := (d0 : Thread nD τ).loc cc0_scratch4) acol_cut acol_disj acol_disj' fullShare (aO m d0)).symm)
    isplitl [H40]; · iexact H40
    isplitl [H41]; · iexact H41
    iexact H42
  isplitl [H5 H5r HQ12 HQ13 HQ14]
  · iexists (bO m d0)
    iapply (bO_whole m d0)
    isplitl [H5]; · iexact H5
    isplitl [H5r]; · iexact H5r
    isplitl [HQ12]; · iexact HQ12
    isplitl [HQ13]; · iexact HQ13
    iexact HQ14
  isplitl [H6]; · iexists (acc2 m d0); iexact H6
  iapply (Entails.of_eq (pts_cut3 (ℓ := (d0 : Thread nD τ).loc cc0_stg0_0) third_cut third_disj third_disj' fullShare (out m d0)).symm)
  isplitl [HO0]; · iexact HO0
  isplitl [HO1]; · iexact HO1
  iexact HO2

/-- The whole kernel on one device: from its blocks and buffers to the result. -/
theorem kernel_run (c : Dev nD) {Q : PUnit → sProp 𝕄} :
    iprop((St m K c 0 1 11 ∗ before m c) ∗ ((St m K c 24 15 0 ∗ after m c) -∗ Q ⟨⟩))
      ⊢ WP c (cc0_body (F := F) (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13) Q := by
  rw [cc0_body_eq_skeleton]; unfold cc0_body_skel
  iintro ⟨Hpre, Hk⟩
  rw [WP_bind]
  iapply (part11 m c)
  isplitl [Hpre]; · iexact Hpre
  iintro ⟨HS, HA⟩
  simp only [Prog.lift, Prog.bind_op, Prog.bind_ret, Prog.pure_eq_ret]
  iapply (take_dma m c 20 (n := 23) (j := 15) (d := 0) S1536x128 .i8 (by decide) rfl rfl (by decide) (by decide)) $$ HS
  iintro ⟨HS, HQ20⟩
  iapply (le_wp_ret _ _ _ _ _)
  iapply Hk
  isplitl [HS]; · iexact HS
  iapply HA
  iexact HQ20

end Cert.Exchange

end
-- ==== Proof.Run.lean ====
/- The launch: what every device starts from, and the run of the whole program on the four devices. -/
module

public import proofs.«01_k».proof.Proof.Body6
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Pipeline.ValueKit.Geometry
public import Idealize.ShloMosaic.Lib.Tactic

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Pipeline (Dat)

variable (m : (ℓ : Loc nD τ sig) → Buf (Elt F) ℓ) (ρ : Dev nD → PrngReg)

/-! ## What the pipeline is told -/

/-- The state at the start: every counter is zero. -/
def s₀ : MemSt nD τ sig (Elt F) := ⟨m, fun _ => 0, ρ⟩

/-- The kernel's own DMA semaphores. -/
def osem : Fin 23 → SemLoc sig := fun i => .dma ⟨i.val + 1, by have := i.isLt; show _ < 24; omega⟩

/-- The blocks of the two arguments on device `c`, which stay unchanged. -/
def argsAt (c : Dev nD) : sProp 𝕄 :=
  iprop(pts c main_arg0 Finset.univ fullShare (A m c) ∗ pts c main_arg1 Finset.univ fullShare (B m c))

/-- The tokens that device `c` pays its dues with. -/
def payToks (c : Dev nD) : sProp 𝕄 :=
  bigSep (Finset.range 11) fun i => dutyTok ER (cell (dueDev c i) (dueK i)) 0 (dueD i)

/-- What device `c` starts from. -/
def start (c : Dev nD) : sProp 𝕄 := iprop((∃ K, ctx m K ∗ cells c 0 1 ∗ payToks c) ∗ argsAt m c)

/-- The kernel's buffers. -/
def scr (c : Dev nD) : sProp 𝕄 :=
  iprop(ptsE c cc0_scratch0 Finset.univ ∗ ptsE c cc0_scratch1 Finset.univ ∗ ptsE c cc0_scratch2 Finset.univ ∗ ptsE c cc0_scratch3 Finset.univ
    ∗ ptsE c cc0_scratch4 Finset.univ ∗ ptsE c cc0_scratch5 Finset.univ ∗ ptsE c cc0_scratch6 Finset.univ)

/-- Every counter of the device at zero. -/
def zeros (c : Dev nD) : sProp 𝕄 := bigSep Finset.univ fun k : Fin 24 => semVal (cell c k) 0

def Φ₀ (c : Dev nD) : sProp 𝕄 := iprop(start m c ∗ scr c)
def Φ₁ (c : Dev nD) : sProp 𝕄 := iprop(zeros c ∗ argsAt m c ∗ scr c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => out m c
  Φ t := match t with
    | ⟨0, _⟩ => Φ₀ m c
    | ⟨_ + 1, _⟩ => Φ₁ m c
  q _ := fullShare
  owed t := match t with
    | ⟨0, _⟩ => O c 11
    | ⟨_ + 1, _⟩ => 0

/-- The result's memory on device `c`, with contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

omit [FloatOps F] in
/-- After the last wait every counter is at zero. -/
theorem cells_end (c : Dev nD) : (cells c 24 15 : sProp 𝕄) = zeros c := by
  unfold cells zeros
  exact bigSep_congr fun k _ => by unfold cellAt; rw [if_pos (wOrd_lt k)]

def bodyPre (c : Dev nD) : sProp 𝕄 :=
  iprop(Φ₀ m c ∗ (dats m ρ 0 c).owesAt () t0_0.castSucc ∗ (∃ d, stg c cc0_stg0_0 ((dats m ρ 0 c).before (0 : Fin 1) t0_0 d)))
def bodyPost (c : Dev nD) : sProp 𝕄 :=
  iprop(Φ₁ m c ∗ (dats m ρ 0 c).owesAt () t0_0.succ ∗ stg c cc0_stg0_0 (out m c))

/-- The kernel takes what the pipeline hands it to what the pipeline asks back. -/
theorem body_run (c : Dev nD) : bodyPre m ρ c ⊢ WP c (cc0_body (F := F) (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13) (fun _ => bodyPost m ρ c) := by
  unfold bodyPre Φ₀ start Dat.owesAt Pipeline.owesWithin
  rw [show (dats m ρ 0 c).owed t0_0.castSucc = O c 11 from rfl]
  iintro ⟨⟨⟨⟨%K, #HC, Hcells, Htok⟩, Hargs⟩, Hscr⟩, ⟨%W, %hW, HO⟩, ⟨%d, %f, %hf, Hs⟩⟩
  iapply (kernel_run m (K := K) c (Q := fun _ => bodyPost m ρ c))
  isplitl [Hcells Htok Hargs Hscr HO Hs]
  · unfold St dues
    isplitl [Hcells Htok HO]
    · isplitr; · iexact HC
      isplitl [Hcells]; · iexact Hcells
      isplitl [HO]; · iexists W; iexact HO
      unfold payToks; iexact Htok
    unfold before argsAt scr
    icases Hargs with ⟨H1, H2⟩
    icases Hscr with ⟨G0, G1, G2, G3, G4, G5, G6⟩
    isplitl [H1]; · iexact H1
    isplitl [H2]; · iexact H2
    isplitl [G0]; · iexact G0
    isplitl [G1]; · iexact G1
    isplitl [G2]; · iexact G2
    isplitl [G3]; · iexact G3
    isplitl [G4]; · iexact G4
    isplitl [G5]; · iexact G5
    isplitl [G6]; · iexact G6
    iexists f; iexact Hs
  unfold bodyPost St dues after Φ₁ argsAt scr Dat.owesAt Pipeline.owesWithin
  rw [show (dats m ρ 0 c).owed t0_0.succ = 0 from rfl, cells_end, O_zero]
  iintro ⟨⟨-, Hz, ⟨%W', HO⟩, -⟩, H1, H2, G0, G1, G2, G3, G4, G5, G6, Hs⟩
  isplitl [Hz H1 H2 G0 G1 G2 G3 G4 G5 G6]
  · isplitl [Hz]; · iexact Hz
    isplitl [H1 H2]
    · isplitl [H1] <;> iassumption
    isplitl [G0]; · iexact G0
    isplitl [G1]; · iexact G1
    isplitl [G2]; · iexact G2
    isplitl [G3]; · iexact G3
    isplitl [G4]; · iexact G4
    isplitl [G5]; · iexact G5
    iexact G6
  isplitl [HO]
  · iexists W'
    isplitr; · ipureintro; exact fun _ _ => Or.inl trivial
    iexact HO
  iexists _; isplitr; · (ipureintro; rfl)
  iexact Hs

set_option maxRecDepth 4000 in
theorem body_obligation (c : Dev nD) : Pipeline.BodyObligation (dats (F := F) m ρ 0 c) (defs₀ (F := F)) 𝒱₀ () Set.univ := fun t => by
  rw [fin_N0 t]
  rw [bigSep_W0, bigSep_W0]
  simp only [owns_whole_eq]
  show bodyPre m ρ c ⊢ WP c (cc0_body (F := F) (Memref.whole main_arg0) (Memref.isWhole_whole _) (Memref.whole main_arg1) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13) (fun _ => bodyPost m ρ c)
  exact body_run m ρ c

/-! ## The ghost state at the launch -/

theorem ownSemFacts : Pipeline.OwnSemFacts cfg0.spec osem := by decide

theorem share_eq (c : Dev nD) (w : Fin cfg0.W) : (dats m ρ 0 c).share w = fullShare := by unfold Dat.share; split <;> rfl

abbrev kcell (p : Dev nD × Fin 24) : GSem nD τ sig := cell p.1 p.2
theorem kcell_injective : Function.Injective kcell := by
  rintro ⟨c, k⟩ ⟨c', k'⟩ h
  have h1 : c = c' := congrArg (fun g : GSem nD τ sig => g.1.1) h
  have h2 : k = k' := csem_inj (congrArg Prod.snd h)
  rw [h1, h2]
def allCells : Finset (GSem nD τ sig) := Finset.univ.map ⟨kcell, kcell_injective⟩

/-- The tokens of a device's cells: both duties of each. -/
abbrev tokOf (p : Dev nD × (Fin 24 × Bool)) : GSem nD τ sig × ℕ × Bool := (cell p.1 p.2.1, 0, p.2.2)
theorem tokOf_injective : Function.Injective tokOf := by
  rintro ⟨c, k, d⟩ ⟨c', k', d'⟩ h
  have h1 : (c, k) = (c', k') := kcell_injective (congrArg Prod.fst h)
  have h2 : d = d' := congrArg (fun x : GSem nD τ sig × ℕ × Bool => x.2.2) h
  obtain ⟨rfl, rfl⟩ := Prod.mk.inj h1
  rw [h2]
def allToks : Finset (GSem nD τ sig × ℕ × Bool) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 := bigSep Finset.univ fun p : Fin 24 × Bool => dutyTok ER (cell c p.1) 0 p.2

/-- What the launch gives device `c`. -/
def G (c : Dev nD) : sProp 𝕄 :=
  iprop((bigSep Finset.univ fun k : Fin 24 => roundState ER (sched m) (kcell (c, k)) 0)
    ∗ ((bigSep Finset.univ fun k : Fin 24 => reached ER (kcell (c, k)) 0) ∗ (bigSep Finset.univ fun k : Fin 24 => atPos ER (kcell (c, k)) 0 ∅ 0)) ∗ toks c)

/-- The tokens of the copies that device `c` issues onto its own cells. -/
def ownToks (c : Dev nD) : sProp 𝕄 :=
  bigSep (Finset.univ.filter fun k : Fin 24 => ¬ iOrd k < 1) fun k => dutyTok ER (cell c k) 0 false

/-- What stays with device `c`: its places, and the tokens it pays with. -/
def linear (c : Dev nD) : sProp 𝕄 :=
  iprop((bigSep Finset.univ fun k : Fin 24 => atPos ER (kcell (c, k)) 0 ∅ 0) ∗ ownToks c ∗ payToks c)

def records (K : Dev nD × Fin 24 → ℕ) : sProp 𝕄 :=
  bigSep Finset.univ fun p : Dev nD × Fin 24 => iprop(cellInv ER (sched m) (K p) (cell p.1 p.2) ∗ reached ER (cell p.1 p.2) 0)
instance records_persistent (K : Dev nD × Fin 24 → ℕ) : BI.Persistent (records m K) := by unfold records; infer_instance

def G' (c : Dev nD) : sProp 𝕄 := iprop(∃ K, records m K ∗ linear c)

omit [FloatOps F] in
theorem fund_cells [FloatOps F] : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 24 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hr'] <;> iassumption
  iexact Htok'

/-- The kernel's semaphores and the barrier are the device's cells. -/
theorem zeros_eq (c : Dev nD) :
    (zeros c : sProp 𝕄) = iprop(unscopedSems0 c ∗ Pipeline.ownSems0 (Ix := Unit) (Name := ℕ) (U := UU) (Lvl := ℕ) (Val := Elt F) (τ := τ) osem c) := by
  have hu : (unscopedSems0 c : sProp 𝕄) = semVal (cell c 0) 0 := by
    unfold unscopedSems0; rw [bigSep_eq_bigSepL_of_eq [SemLoc.reg barS] (by decide) (by decide)]; rfl
  rw [hu]
  unfold zeros Pipeline.ownSems0
  rw [bigSep_univ_at _ (0 : Fin 24), show (Finset.univ.erase (0 : Fin 24)) = (Finset.univ : Finset (Fin 23)).map ⟨Fin.succ, Fin.succ_injective _⟩ from by decide, bigSep_map]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ ((bigSep Finset.univ fun k : Fin 24 => reached ER (kcell (c, k)) 0) ∗ (bigSep Finset.univ fun k : Fin 24 => atPos ER (kcell (c, k)) 0 ∅ 0)) ∗ toks c) := by
  unfold G
  iintro ⟨Hos, Hus, Hst, Hat, Htok⟩
  ihave Hv := (Entails.of_eq (zeros_eq (F := F) c).symm) $$ [Hos Hus]
  · isplitl [Hus] <;> iassumption
  imod (show iprop((zeros c : sProp 𝕄) ∗ bigSep Finset.univ fun k : Fin 24 => roundState ER (sched m) (kcell (c, k)) 0)
      ⊢ (|={Set.univ}=> bigSep Finset.univ fun k => iprop(∃ κ : ℕ, cellInv ER (sched m) κ (kcell (c, k))) : sProp 𝕄) from by
        unfold zeros
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The device that due `i` is owed to is owed it by the device back. -/
theorem dueDev_dueDev (c : Dev nD) (i : ℕ) (h : i < 11) : dueDev (dueDev c i) i = c := by
  have hd : ∀ i < 11, ∀ c : Dev nD, dueDev (dueDev c i) i = c := by decide
  exact hd i h c

/-- The tokens of a device's cells, as those who pay the cells hold them. -/
theorem toks_split (c : Dev nD) :
    (toks c : sProp 𝕄) ⊢ iprop(ownToks c ∗ bigSep (Finset.range 11) fun i => dutyTok ER (cell c (dueK i)) 0 (dueD i)) := by
  unfold toks ownToks
  have h1 : (bigSep (Finset.univ.filter fun k : Fin 24 => ¬ iOrd k < 1) fun k => (dutyTok ER (cell c k) 0 false : sProp 𝕄))
      = bigSep ((Finset.univ.filter fun k : Fin 24 => ¬ iOrd k < 1).image fun k => (k, false)) fun p => dutyTok ER (cell c p.1) 0 p.2 :=
    (bigSep_image_of_injOn (f := fun k : Fin 24 => (k, false)) (fun a _ b _ h => congrArg Prod.fst h) fun p : Fin 24 × Bool => (dutyTok ER (cell c p.1) 0 p.2 : sProp 𝕄)).symm
  have h2 : (bigSep (Finset.range 11) fun i => (dutyTok ER (cell c (dueK i)) 0 (dueD i) : sProp 𝕄))
      = bigSep ((Finset.range 11).image fun i => (dueK i, dueD i)) fun p => dutyTok ER (cell c p.1) 0 p.2 :=
    (bigSep_image_of_injOn (f := fun i => (dueK i, dueD i)) (fun a ha b hb h => by
      have hd : ∀ a < 11, ∀ b < 11, (dueK a, dueD a) = (dueK b, dueD b) → a = b := by decide
      exact hd a (Finset.mem_range.mp ha) b (Finset.mem_range.mp hb) h) fun p : Fin 24 × Bool => (dutyTok ER (cell c p.1) 0 p.2 : sProp 𝕄)).symm
  rw [h1, h2]
  exact (bigSep_subset (Finset.subset_univ (((Finset.univ.filter fun k : Fin 24 => ¬ iOrd k < 1).image fun k => (k, false))
    ∪ (Finset.range 11).image fun i => (dueK i, dueD i)))).trans (Entails.of_eq (bigSep_union (by decide)))

/-- What is dealt to every device for every due may be grouped by the dues. -/
theorem deal_comm (s : Finset ℕ) (Φ : Dev nD → ℕ → sProp 𝕄) :
    (bigSep Finset.univ fun c => bigSep s fun i => Φ c i) = bigSep s fun i => bigSep Finset.univ fun c => Φ c i := by
  induction s using Finset.induction_on with
  | empty => simp only [bigSep_empty, bigSep_emp_const]
  | insert i s hi ih =>
    have h : (bigSep Finset.univ fun c => bigSep (insert i s) fun i => Φ c i) = bigSep Finset.univ fun c => iprop(Φ c i ∗ bigSep s fun i => Φ c i) :=
      bigSep_congr fun c _ => bigSep_insert hi
    rw [h, bigSep_sep', ih, bigSep_insert hi]; rfl

/-- The tokens go from the devices whose cells they pay to the devices that pay. -/
theorem toks_around : (bigSep Finset.univ fun c : Dev nD => (toks c : sProp 𝕄)) ⊢ bigSep Finset.univ fun c : Dev nD => iprop(ownToks c ∗ payToks c) := by
  refine (bigSep_mono fun c _ => toks_split c).trans ?_
  have h : (bigSep Finset.univ fun c : Dev nD => bigSep (Finset.range 11) fun i => (dutyTok ER (cell c (dueK i)) 0 (dueD i) : sProp 𝕄))
      = bigSep Finset.univ fun c : Dev nD => payToks c := by
    unfold payToks
    rw [deal_comm, deal_comm]
    refine bigSep_congr fun i hi => ?_
    have hi := Finset.mem_range.mp hi
    exact bigSep_univ_equiv ⟨fun c => dueDev c i, fun c => dueDev c i, fun c => dueDev_dueDev c i hi, fun c => dueDev_dueDev c i hi⟩
      (fun c : Dev nD => (dutyTok ER (cell c (dueK i)) 0 (dueD i) : sProp 𝕄))
  rw [bigSep_sep', bigSep_sep', h]
  first | exact BI.Entails.rfl | exact BI.Entails.refl _ | exact sep_mono_right (PROP := sProp 𝕄) Entails.rfl

theorem regroup :
    (bigSep Finset.univ fun c : Dev nD => iprop((bigSep Finset.univ fun k => iprop(∃ κ : ℕ, cellInv ER (sched m) κ (kcell (c, k))))
          ∗ ((bigSep Finset.univ fun k : Fin 24 => reached ER (kcell (c, k)) 0) ∗ (bigSep Finset.univ fun k : Fin 24 => atPos ER (kcell (c, k)) 0 ∅ 0)) ∗ toks c) : sProp 𝕄)
      ⊢ bigSep Finset.univ (G' m) := by
  rw [bigSep_sep', bigSep_sep', bigSep_sep', ← bigSep_univ_prod (fun ck : Dev nD × Fin 24 => iprop(∃ κ : ℕ, cellInv ER (sched m) κ (kcell ck))),
    ← bigSep_univ_prod (fun ck : Dev nD × Fin 24 => (reached ER (kcell ck) 0 : sProp 𝕄))]
  iintro ⟨HI, ⟨#HR, Hat⟩, Htok⟩
  ihave HK := (BI.bigSep_exists_pi Finset.univ (fun (ck : Dev nD × Fin 24) (κ : ℕ) => (cellInv ER (sched m) κ (kcell ck) : sProp 𝕄))) $$ HI
  icases HK with ⟨%K, #HI⟩
  ihave Htk := (toks_around (F := F)) $$ Htok
  iapply (bigSep_with_persistent (R := records m K) (Φ := fun c : Dev nD => (linear c : sProp 𝕄)) fun c _ => show iprop(records m K ∗ linear c) ⊢ G' m c from by
    unfold G'; iintro ⟨#H, Hl⟩; iexists K; isplitr; · iexact H
    iexact Hl)
  isplitr
  · iapply (show iprop((bigSep Finset.univ fun ck : Dev nD × Fin 24 => (cellInv ER (sched m) (K ck) (kcell ck) : sProp 𝕄))
        ∗ bigSep Finset.univ fun ck : Dev nD × Fin 24 => reached ER (kcell ck) 0) ⊢ records m K from by unfold records; rw [bigSep_sep'])
    isplitl; · iexact HI
    iexact HR
  · iapply (show iprop((bigSep Finset.univ fun c : Dev nD => bigSep Finset.univ fun k : Fin 24 => (atPos ER (kcell (c, k)) 0 ∅ 0 : sProp 𝕄))
        ∗ bigSep Finset.univ fun c : Dev nD => iprop(ownToks c ∗ payToks c)) ⊢ bigSep Finset.univ fun c : Dev nD => (linear c : sProp 𝕄) from by
          unfold linear; rw [bigSep_sep' Finset.univ (fun c : Dev nD => bigSep Finset.univ fun k : Fin 24 => (atPos ER (kcell (c, k)) 0 ∅ 0 : sProp 𝕄))])
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at the launch -/

/-- What device `d` owes cell `k` of device `c`, due by due. -/
theorem O_apply (d c : Dev nD) (k : Fin 24) (n : ℕ) :
    O d n (cell c k) () = ∑ i ∈ Finset.range n, if d = dueDev c i ∧ dueK i = k ∧ i < 11 ∨ (11 ≤ i ∧ cell c k = cell (dueDev d i) (dueK i)) then N k else 0 := by
  induction n with
  | zero => rw [O_zero, Finset.sum_range_zero]; rfl
  | succ n ih =>
    rw [O_succ, Pi.add_apply, Finsupp.add_apply, ih, Finset.sum_range_succ, tallyAt_apply]
    congr 1
    have he : (cell c k = cell (dueDev d n) (dueK n) ∧ () = ()) ↔ (d = dueDev c n ∧ dueK n = k ∧ n < 11 ∨ (11 ≤ n ∧ cell c k = cell (dueDev d n) (dueK n))) := by
      constructor
      · rintro ⟨h, -⟩
        by_cases hn : n < 11
        · obtain ⟨h1, h2⟩ := Prod.mk.inj (kcell_injective (a₁ := (c, k)) (a₂ := (dueDev d n, dueK n)) h)
          exact Or.inl ⟨by rw [h1, dueDev_dueDev d n hn], h2.symm, hn⟩
        · exact Or.inr ⟨by omega, h⟩
      · rintro (⟨h1, h2, hn⟩ | ⟨-, h⟩)
        · exact ⟨by rw [h1, dueDev_dueDev c n hn, h2], rfl⟩
        · exact ⟨h, rfl⟩
    by_cases h : cell c k = cell (dueDev d n) (dueK n) ∧ () = ()
    · rw [if_pos h, if_pos (he.mp h)]
      have := csem_inj (congrArg Prod.snd h.1)
      rw [← this]
    · rw [if_neg h, if_neg (fun h' => h (he.mpr h'))]

/-- All that is owed a cell which the neighbours pay is all that its device waits for. -/
theorem owed_sum (c : Dev nD) (k : Fin 24) (hk : iOrd k < 1) : ∑ d : Dev nD, O d 11 (cell c k) () = X k := by
  rw [Finset.sum_congr rfl fun d _ => O_apply d c k 11, Finset.sum_comm]
  have h1 : ∀ i ∈ Finset.range 11, (∑ d : Dev nD, if d = dueDev c i ∧ dueK i = k ∧ i < 11 ∨ (11 ≤ i ∧ cell c k = cell (dueDev d i) (dueK i)) then N k else 0)
      = if dueK i = k then N k else 0 := fun i hi => by
    have hi := Finset.mem_range.mp hi
    by_cases h : dueK i = k
    · rw [if_pos h, Fintype.sum_eq_single (dueDev c i) fun d hd => if_neg (by rintro (⟨h1, -⟩ | ⟨h2, -⟩); · exact hd h1
                                                                              omega)]
      exact if_pos (Or.inl ⟨rfl, h, hi⟩)
    · rw [if_neg h]
      exact Finset.sum_eq_zero fun d _ => if_neg (by rintro (⟨-, h1, -⟩ | ⟨h2, -⟩); · exact h h1
                                                     omega)
  rw [Finset.sum_congr rfl h1, ← Finset.sum_filter, Finset.sum_const, smul_eq_mul]
  have h2 : ∀ k : Fin 24, iOrd k < 1 → ((Finset.range 11).filter fun i => dueK i = k).card = if k = 0 then 2 else 1 := by decide
  rw [h2 k hk]
  unfold X
  by_cases h : k = 0
  · subst h; rfl
  · rw [if_neg h, if_neg h, Nat.one_mul]

theorem launch_cell (c : Dev nD) (k : Fin 24) (hk : iOrd k < 1) :
    tallyOn (cell c k) (launchCredit (Pipeline.owing fun d => O d 11) 0 (cell c k)) = (tallyAt (cell c k) () (X k) : CellTallies nD τ sig Unit) := by
  unfold tallyAt; refine congrArg _ (Finsupp.ext fun u => ?_); cases u
  rw [Pipeline.launchCredit_owing, Finsupp.single_eq_same]
  exact owed_sum c k hk

theorem creds (c : Dev nD) :
    (Pipeline.launchCred (fun d => O d 11) c : sProp 𝕄)
      ⊢ bigSep (Finset.univ.filter fun k : Fin 24 => iOrd k < 1) fun k => cred (tallyAt (cell c k) () (X k)) := by
  unfold Pipeline.launchCred
  refine (bigSep_subset (Finset.subset_univ ((Finset.univ.filter fun k : Fin 24 => iOrd k < 1).map ⟨csem, fun _ _ h => csem_inj h⟩))).trans ?_
  rw [bigSep_map]
  exact bigSep_mono fun k hk => Entails.of_eq (congrArg cred (launch_cell c k (Finset.mem_filter.mp hk).2))

/-- A device's cells at the start. -/
theorem cells_start (c : Dev nD) :
    (cells c 0 1 : sProp 𝕄) = iprop((bigSep Finset.univ fun k : Fin 24 => atPos ER (kcell (c, k)) 0 ∅ 0)
      ∗ (bigSep (Finset.univ.filter fun k : Fin 24 => iOrd k < 1) fun k => cred (tallyAt (cell c k) () (X k))) ∗ ownToks c) := by
  have h : (cells c 0 1 : sProp 𝕄) = bigSep Finset.univ fun k : Fin 24 => iprop(atPos ER (kcell (c, k)) 0 ∅ 0 ∗ held c 1 k) := by
    unfold cells
    exact bigSep_congr fun k _ => by unfold cellAt; rw [if_neg (Nat.not_lt_zero _)]
  rw [h, bigSep_sep']
  congr 1
  rw [bigSep_filter_split Finset.univ fun k : Fin 24 => iOrd k < 1]
  unfold ownToks
  exact congrArg₂ (fun a b : sProp 𝕄 => iprop(a ∗ b)) (bigSep_congr fun k hk => if_pos (Finset.mem_filter.mp hk).2)
    (bigSep_congr fun k hk => if_neg (Finset.mem_filter.mp hk).2)

/-! ## The run -/

theorem start_intro (c : Dev nD) :
    iprop(Pipeline.unscopedRestP Pipeline.Prefetch.none cfg0.spec c (fun b => m ((c : Thread nD τ).loc b)) ∗ levAts L lv
        ∗ Pipeline.launchCred (fun d => O d 11) c ∗ prngReg c (ρ c) ∗ G' m c)
      ⊢ |={Set.univ}=> iprop(start m c ∗ emp) := by
  rw [Pipeline.unscopedRestP_none, unscopedRest0_eq]
  iintro ⟨⟨H1, H2⟩, Hlev, Hcr, -, HG⟩
  ihave Hc := (creds (F := F) c) $$ Hcr
  unfold G' linear
  icases HG with ⟨%K, #HR, Hat, Hown, Hpay⟩
  imodintro
  unfold start ctx argsAt
  rw [cells_start]
  isplitl
  · isplitl [Hlev Hc Hat Hown Hpay]
    · iexists K
      isplitl [Hlev]
      · isplitr; · unfold records; iexact HR
        iexact Hlev
      isplitl [Hat Hc Hown]
      · isplitl [Hat]; · iexact Hat
        isplitl [Hc] <;> iassumption
      iexact Hpay
    isplitl [H1]; · iexact H1
    iexact H2
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop((unscopedSems0 c ∗ argsAt m c) ∗ Pipeline.ownSems0 osem c ∗ Pipeline.scopedRest cfg0.spec c) := by
  rw [show (dats m ρ 0 c).Φ (Fin.last cfg0.N) = Φ₁ m c from rfl, scopedRest0_eq]
  unfold Φ₁ scr
  rw [zeros_eq]
  iintro ⟨⟨Hu, Ho⟩, Ha, Hr⟩
  isplitl [Hu Ha]
  · isplitl [Hu] <;> iassumption
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t => by
    have hs : ∀ i < 11, 0 < lvK (dueK i) := by decide
    rcases t with ⟨_ | _, ht⟩
    · refine mayWait (n := 11) fun i hi => ?_
      have : ∀ (w : Fin cfg0.W) (s : Fin (cfg0.win w).nbuf), lv ((c : Thread nD τ), SemLoc.dma ((cfg0.win w).sem s)) () = 0 := by
        intro w s; fin_cases w; fin_cases s; exact if_pos rfl
      exact (this w s).symm ▸ hs i hi
    · show (levAts L lv : sProp 𝕄) ⊢ MayWait _ _ () 0
      rw [MayWait_zero]; iintro -; iempintro

def finalA (c : Dev nD) (w : Fin cfg0.W) : Buf (Elt F) ((cfg0.win w).arr.view.loc (c : Thread nD τ)) := (dats m ρ 0 c).arrAt w cfg0.N

/-- The result array ends holding what the kernel left. -/
theorem finalA_out (c : Dev nD) : finalA m ρ c (0 : Fin 1) = out m c :=
  (dats (F := F) m ρ 0 c).arrAt_eq_of_after_last (0 : Fin 1) t0_0 (by decide +kernel) _ fun j => rfl

/-- A whole buffer held at the end is what memory holds. -/
theorem arg_read {ℓ : Loc nD τ sig} (f : Buf (Elt F) ℓ) (s' : Phys nD τ sig (Elt F)) :
    iprop((ℓ ↦[Finset.univ]{fullShare} f : sProp 𝕄) ∗ SI s') ⊢ iprop(⌜s'.mem.mem ℓ = f⌝ ∗ SI s') := by
  iintro ⟨H, HSI⟩
  ihave HR := (pointsTo_read_all (Finset.univ : Finset Unit) (fun _ => ℓ) (fun _ => f) s') $$ [H HSI]
  · isplitl [H]
    · iapply (Entails.of_eq (bigSep_univ_of_subsingleton (M := 𝕄) () (Φ := fun _ : Unit => (ℓ ↦[Finset.univ]{fullShare} f : sProp 𝕄))).symm)
      iexact H
    iexact HSI
  icases HR with ⟨%h, HSI⟩
  isplitr; · ipureintro; exact h () (Finset.mem_univ _)
  iexact HSI

/-- What every final state has: the result on each device, the arguments unchanged, every counter at zero. -/
def QC : PUnit × MemSt nD τ sig (Elt F) → Prop := fun r =>
  (∀ c : Dev nD, r.2.mem ((c : Thread nD τ).loc main_v1) = out m c
    ∧ r.2.mem ((c : Thread nD τ).loc main_arg0) = m ((c : Thread nD τ).loc main_arg0)
    ∧ r.2.mem ((c : Thread nD τ).loc main_arg1) = m ((c : Thread nD τ).loc main_arg1))
  ∧ r.2.sem = fun _ => 0

set_option maxRecDepth 8000 in
/-- From any memory with every counter at zero, over any float values: the four devices' kernels run to the end without a fault;
    each device's result array then holds `out m c`, the arguments are unchanged and every counter is at zero. -/
theorem run_main : θ_run defs (onTc (τ := τ) (main (F := F))) (s₀ m ρ) (QC m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => O d 11) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => iprop(unscopedSems0 c ∗ argsAt m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg0) = m ((c : Thread nD τ).loc main_arg0)
      ∧ s.mem ((c : Thread nD τ).loc main_arg1) = m ((c : Thread nD τ).loc main_arg1))
    (hY := fun c s' => by
      unfold argsAt
      iintro ⟨⟨Hu, H1, H2⟩, -, HSI⟩
      ihave HR := (arg_read (F := F) (ℓ := (c : Thread nD τ).loc main_arg0) (A m c) s') $$ [H1 HSI]
      · isplitl [H1] <;> iassumption
      icases HR with ⟨%h1, HSI⟩
      ihave HR := (arg_read (F := F) (ℓ := (c : Thread nD τ).loc main_arg1) (B m c) s') $$ [H2 HSI]
      · isplitl [H2] <;> iassumption
      icases HR with ⟨%h2, HSI⟩
      imod (Pipeline.unscopedSems0_read (X := unscopedSems0 c) (c := c) fupd_intro s') $$ [Hu HSI] with HR
      · isplitl [Hu] <;> iassumption
      icases HR with ⟨%h3, HSI⟩
      imodintro
      isplitr; · ipureintro; exact ⟨h3, h1, h2⟩
      iexact HSI)
    (hQ := fun _ h hs => ⟨fun c => ⟨((h c).1 (0 : Fin 1)).trans (finalA_out m ρ c), (h c).2.2.2.1, (h c).2.2.2.2⟩, sem_eq_zero hs fun c => (h c).2.2.1⟩)

end Cert.Exchange

end
-- ==== Proof.Value1.lean ====
/- Values: the quantiser over the extended reals, and what one element of the result is. -/
module

public import proofs.«01_k».proof.Proof.Body3
public import Idealize.ShloMosaic.Lib.MatmulPlain
public import Idealize.ShloMosaic.Lib.ValueIdx
public import Idealize.ShloMosaic.Lib.ValueIdxCoords
public import Idealize.ShloMosaic.Lib.IdealHost

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open scoped BigOperators
open Idealize.ShloMosaic.ValueIdx

/-! ## The quantiser on one extended real -/

/-- The three constants of the quantiser and of the rescaling. -/
theorem bits_32 : Ideal.ofBits .f32 0x42000000#32 = ((32 : ℝ) : EReal) := by
  simp [Ideal.ofBits, Ideal.ieee]; norm_num; rw [← EReal.coe_mul]; norm_num
theorem bits_127 : Ideal.ofBits .f32 0x42FE0000#32 = ((127 : ℝ) : EReal) := by
  simp [Ideal.ofBits, Ideal.ieee]; norm_num; rw [← EReal.coe_mul]; norm_num
theorem bits_neg_127 : Ideal.ofBits .f32 0xC2FE0000#32 = ((-127 : ℝ) : EReal) := by
  simp [Ideal.ofBits, Ideal.ieee]; norm_num; rw [← EReal.coe_mul]; norm_num
theorem bits_1024_bf16 : Ideal.ofBits .bf16 0x3A80#16 = ((1 / 1024 : ℝ) : EReal) := by
  simp [Ideal.ofBits, Ideal.ieee]; norm_num; rw [← EReal.coe_mul]; norm_num
theorem bits_1024_f32 : Ideal.ofBits .f32 0x3A800000#32 = ((1 / 1024 : ℝ) : EReal) := by
  simp [Ideal.ofBits, Ideal.ieee]; norm_num; rw [← EReal.coe_mul]; norm_num

/-- 32 times the number, rounded to the nearest even integer and clipped to ±127. -/
def qv (x : EReal) : EReal :=
  min (Ideal.ofBits .f32 0x42FE0000#32) (max (Ideal.ofBits .f32 0xC2FE0000#32)
    (Ideal.liftRound Ideal.roundHalfEven (x * Ideal.ofBits .f32 0x42000000#32)))

/-- The quantiser's values are integers of size at most 127, of infinities too. -/
theorem qv_int (x : EReal) : ∃ n : ℤ, -127 ≤ n ∧ n ≤ 127 ∧ qv x = (((n : ℤ) : ℝ) : EReal) := by
  unfold qv
  rw [bits_127, bits_neg_127]
  generalize x * Ideal.ofBits .f32 0x42000000#32 = y
  induction y using EReal.rec with
  | bot =>
    refine ⟨-127, le_refl _, by norm_num, ?_⟩
    show min _ (max _ (⊥ : EReal)) = _
    rw [max_eq_left bot_le, min_eq_right (by exact_mod_cast (by norm_num : (-127 : ℝ) ≤ 127))]
    norm_num
  | top =>
    refine ⟨127, by norm_num, le_refl _, ?_⟩
    show min _ (max _ (⊤ : EReal)) = _
    rw [max_eq_right le_top, min_eq_left le_top]
    norm_num
  | coe r =>
    refine ⟨min 127 (max (-127) (Ideal.roundHalfEven r)), le_min (by norm_num) (le_max_left _ _), min_le_left _ _, ?_⟩
    show min _ (max _ (((Ideal.roundHalfEven r : ℤ) : ℝ) : EReal)) = _
    rw [← EReal.coe_strictMono.monotone.map_max, ← EReal.coe_strictMono.monotone.map_min]
    push_cast
    rfl

/-- Turned into an int8 and back, a value of the quantiser is itself. -/
theorem qv_back (x : EReal) : (((Ideal.fptosi 8 (qv x)).toInt : ℝ) : EReal) = qv x := by
  obtain ⟨n, h1, h2, h⟩ := qv_int x
  rw [h]
  have e : Ideal.toIntClamped (-(2 ^ (8 - 1) : Nat)) ((2 ^ (8 - 1) : Nat) - 1) (((n : ℤ) : ℝ) : EReal) = n := by
    show max _ (min _ (if 0 ≤ ((n : ℤ) : ℝ) then ⌊((n : ℤ) : ℝ)⌋ else ⌈((n : ℤ) : ℝ)⌉)) = n
    rw [Int.floor_intCast, Int.ceil_intCast, ite_self]
    norm_num
    omega
  have e2 : (Ideal.fptosi 8 (((n : ℤ) : ℝ) : EReal)).toInt = n := by
    unfold Ideal.fptosi
    rw [e, BitVec.toInt_ofInt]
    exact Int.bmod_eq_of_le (by norm_num; omega) (by norm_num; omega)
  rw [e2]

/-- The whole array's quantiser, turned back, is the quantiser element by element. -/
theorem quant_back {s : Shape} (v : FVec Ideal s .f32) (i : s.Idx) :
    (((quant v i : BitVec 8).toInt : ℝ) : EReal) = qv (v i) := qv_back (v i)

/-! ## Sums -/

/-- A product with a nonnegative real goes into a sum of extended reals. -/
theorem sum_scale {n : ℕ} (w : Fin n → EReal) {s : ℝ} (hs : 0 ≤ s) : ∑ k, w k * (s : EReal) = (∑ k, w k) * (s : EReal) := by
  classical
  induction (Finset.univ : Finset (Fin n)) using Finset.induction_on with
  | empty => simp
  | insert a t ha ih =>
    rw [Finset.sum_insert ha, Finset.sum_insert ha, ih, mul_comm (w a + _), mul_comm (w a), mul_comm (∑ x ∈ t, w x)]
    exact (EReal.left_distrib_of_nonneg_of_ne_top (by exact_mod_cast hs) (EReal.coe_ne_top s) _ _).symm

/-- A sum over 768 positions is the sums over the first 384, the next 256 and the last 128. -/
theorem sum_pieces (f : Fin 768 → EReal) :
    ∑ k, f k = (∑ k : Fin 384, f ⟨k.val, by omega⟩) + (∑ k : Fin 256, f ⟨384 + k.val, by omega⟩) + ∑ k : Fin 128, f ⟨640 + k.val, by omega⟩ := by
  rw [show (∑ k, f k) = ∑ k : Fin (384 + 256 + 128), f k from rfl, Fin.sum_univ_add, Fin.sum_univ_add]
  rfl

/-! ## What one element of the result is -/

/-- The element in row `r` and column `l` of `A B + q(A') q(B') / 1024`. -/
def mix {M N : ℕ} (A : FVec Ideal ⟨2, ![M, 768]⟩ .f32) (B : FVec Ideal ⟨2, ![768, N]⟩ .f32) (A' : FVec Ideal ⟨2, ![M, 768]⟩ .f32)
    (B' : FVec Ideal ⟨2, ![768, N]⟩ .f32) (r : Fin M) (l : Fin N) : EReal :=
  (∑ k : Fin 768, A (ix2 r k) * B (ix2 k l))
    + (∑ k : Fin 768, qv (A' (ix2 r k)) * qv (B' (ix2 k l))) * ((1 / 1024 : ℝ) : EReal)

/-- It depends only on the row and the column that it names. -/
theorem mix_congr {M M' N N' : ℕ} {A A' : FVec Ideal ⟨2, ![M, 768]⟩ .f32} {B B' : FVec Ideal ⟨2, ![768, N]⟩ .f32}
    {C C' : FVec Ideal ⟨2, ![M', 768]⟩ .f32} {D D' : FVec Ideal ⟨2, ![768, N']⟩ .f32} {r : Fin M} {r' : Fin M'} {l : Fin N} {l' : Fin N'}
    (h1 : ∀ k, A (ix2 r k) = C (ix2 r' k)) (h2 : ∀ k, B (ix2 k l) = D (ix2 k l'))
    (h3 : ∀ k, A' (ix2 r k) = C' (ix2 r' k)) (h4 : ∀ k, B' (ix2 k l) = D' (ix2 k l')) :
    mix A B A' B' r l = mix C D C' D' r' l' := by
  unfold mix
  simp only [h1, h2, h3, h4]

/-- The exchanged product, summed in the kernel's three pieces with the rescaling inside, is one sum rescaled. -/
theorem pieces_eq (p a b : Fin 768 → EReal) :
    (∑ k, p k) + (∑ k : Fin 384, a ⟨k.val, by omega⟩ * ((1 / 1024 : ℝ) : EReal) * b ⟨k.val, by omega⟩)
        + (∑ k : Fin 256, a ⟨384 + k.val, by omega⟩ * ((1 / 1024 : ℝ) : EReal) * b ⟨384 + k.val, by omega⟩)
        + (∑ k : Fin 128, a ⟨640 + k.val, by omega⟩ * ((1 / 1024 : ℝ) : EReal) * b ⟨640 + k.val, by omega⟩)
      = (∑ k, p k) + (∑ k, a k * b k) * ((1 / 1024 : ℝ) : EReal) := by
  rw [← sum_scale _ (by norm_num : (0 : ℝ) ≤ 1 / 1024), sum_pieces (fun k => a k * b k * ((1 / 1024 : ℝ) : EReal))]
  simp only [mul_right_comm _ ((1 / 1024 : ℝ) : EReal)]
  rw [add_assoc, add_assoc, add_assoc]

end Cert.Exchange

end
-- ==== Proof.Value2.lean ====
/- Values: the kernel's result on a device, element by element, over the extended reals. -/
module

public import proofs.«01_k».proof.Proof.Value1
public import Idealize.ShloMosaic.Lib.Pipeline.Value

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open scoped BigOperators
open Idealize.ShloMosaic.ValueIdx

/-! ## The reads, by coordinates -/

/-- The index of a piece in its matrix: the piece's offsets are added. -/
theorem emb_ix {P Q a b o o' : ℕ} (inb) (r : Fin a) (k : Fin b) (h : o + r.val < P) (h' : o' + k.val < Q) :
    (Rect.unit (s := (⟨2, ![P, Q]⟩ : Shape)) ![o, o'] ![a, b] inb).emb (ix2 r k) = ix2 ⟨o + r.val, h⟩ ⟨o' + k.val, h'⟩ := by
  funext d
  refine Fin.ext ?_
  fin_cases d
  · show o + 1 * r.val = o + r.val; omega
  · show o' + 1 * k.val = o' + k.val; omega

/-- The element of a slice of columns. -/
theorem slice_cols {P a b o : ℕ} {α : Type} (x : (⟨2, ![P, a]⟩ : Shape).Idx → α) (h) (k : Fin P) (l : Fin b) (hl : o + l.val < a) :
    extractStridedSlice (⟨2, ![P, b]⟩ : Shape) ![0, o] x h (ix2 k l) = x (ix2 k ⟨o + l.val, hl⟩) := by
  refine extractStridedSlice_apply _ x h _ _ fun d => ?_
  fin_cases d
  · show k.val = 0 + k.val; omega
  · rfl

/-- The element of a slice of rows. -/
theorem slice_rows {P a b o : ℕ} {α : Type} (x : (⟨2, ![a, P]⟩ : Shape).Idx → α) (h) (k : Fin b) (l : Fin P) (hk : o + k.val < a) :
    extractStridedSlice (⟨2, ![b, P]⟩ : Shape) ![o, 0] x h (ix2 k l) = x (ix2 ⟨o + k.val, hk⟩ l) := by
  refine extractStridedSlice_apply _ x h _ _ fun d => ?_
  fin_cases d
  · rfl
  · show l.val = 0 + l.val; omega

/-! ## The kernel's payloads, by coordinates -/

/-- The own product's first block of columns. -/
theorem own0 (a : Vec Ideal S1536x768 .f32) (b : Vec Ideal S768x1536 .f32) (r : Fin 1536) (l : Fin 512) (l' : Fin 1536) (hl : l'.val = 0 + l.val) :
    k0_pay10 a b (ix2 r l) = ∑ k : Fin 768, a (ix2 r k) * b (ix2 k l') := by
  obtain rfl : l' = ⟨0 + l.val, by have := l.isLt; clear hl l'; omega⟩ := Fin.ext hl
  unfold k0_pay10 k0_pay8 k0_pay9
  rw [shapeCast_self]
  refine (Ideal.matmul_plain_apply none _ _ _ r l).trans ?_
  rw [constant_apply, Ideal.ofBits_zero_f32, zero_add]
  exact Finset.sum_congr rfl fun k _ => congrArg (a (ix2 r k) * ·) (slice_cols (o := 0) (α := EReal) b slices_S768x1536_o0_0_S768x512 k l _)

/-- Its second block of columns. -/
theorem own1 (a : Vec Ideal S1536x768 .f32) (b : Vec Ideal S768x1536 .f32) (r : Fin 1536) (l : Fin 512) (l' : Fin 1536) (hl : l'.val = 512 + l.val) :
    k0_pay11 (k0_pay8 a) (k0_pay9 b) (ix2 r l) = ∑ k : Fin 768, a (ix2 r k) * b (ix2 k l') := by
  obtain rfl : l' = ⟨512 + l.val, by have := l.isLt; clear hl l'; omega⟩ := Fin.ext hl
  unfold k0_pay11 k0_pay8 k0_pay9
  rw [shapeCast_self]
  refine (Ideal.matmul_plain_apply none _ _ _ r l).trans ?_
  rw [constant_apply, Ideal.ofBits_zero_f32, zero_add]
  exact Finset.sum_congr rfl fun k _ => congrArg (a (ix2 r k) * ·) (slice_cols (o := 512) (α := EReal) b slices_S768x1536_o0_512_S768x512 k l _)

/-- Its third block of columns. -/
theorem own2 (a : Vec Ideal S1536x768 .f32) (b : Vec Ideal S768x1536 .f32) (r : Fin 1536) (l : Fin 512) (l' : Fin 1536) (hl : l'.val = 1024 + l.val) :
    k0_pay13 (k0_pay8 a) (k0_pay12 (k0_pay9 b)) (ix2 r l) = ∑ k : Fin 768, a (ix2 r k) * b (ix2 k l') := by
  obtain rfl : l' = ⟨1024 + l.val, by have := l.isLt; clear hl l'; omega⟩ := Fin.ext hl
  unfold k0_pay13 k0_pay12 k0_pay8 k0_pay9
  rw [shapeCast_self]
  refine (Ideal.matmul_plain_apply none _ _ _ r l).trans ?_
  rw [constant_apply, Ideal.ofBits_zero_f32, zero_add]
  exact Finset.sum_congr rfl fun k _ => congrArg (a (ix2 r k) * ·) (slice_cols (o := 1024) (α := EReal) b slices_S768x1536_o0_1024_S768x512 k l _)

/-- An int8 as an extended real. -/
def sv (b : BitVec 8) : EReal := ((b.toInt : ℝ) : EReal)

/-- The first piece of the received product, added. -/
theorem piece0 (v : Vec Ideal S1536x1536 .f32) (a : Vec Ideal S1536x384 .i8) (b : Vec Ideal S384x1536 .i8) (r l : Fin 1536) :
    k0_pay15 v (k0_pay14 a) b (ix2 r l) = v (ix2 r l) + ∑ k : Fin 384, sv (a (ix2 r k)) * ((1 / 1024 : ℝ) : EReal) * sv (b (ix2 k l)) := by
  unfold k0_pay15 k0_pay14
  rw [shapeCast_self, addf_apply, ← bits_1024_bf16]
  refine congrArg (v (ix2 r l) + ·) ((Ideal.matmul_plain_apply none _ _ _ r l).trans ?_)
  rw [constant_apply, Ideal.ofBits_zero_f32, zero_add]
  rfl

/-- The second piece, added. -/
theorem piece1 (v : Vec Ideal S1536x1536 .f32) (a : Vec Ideal S1536x256 .i8) (b : Vec Ideal S256x1536 .i8) (r l : Fin 1536) :
    k0_pay16 v a b (ix2 r l) = v (ix2 r l) + ∑ k : Fin 256, sv (a (ix2 r k)) * ((1 / 1024 : ℝ) : EReal) * sv (b (ix2 k l)) := by
  unfold k0_pay16
  rw [shapeCast_self, addf_apply, ← bits_1024_bf16]
  refine congrArg (v (ix2 r l) + ·) ((Ideal.matmul_plain_apply none _ _ _ r l).trans ?_)
  rw [constant_apply, Ideal.ofBits_zero_f32, zero_add]
  rfl

/-- The last piece, added, in each block of columns. -/
theorem last0 (a : Vec Ideal S1536x128 .i8) (v : Vec Ideal S1536x512 .f32) (b : Vec Ideal S128x512 .i8) (r : Fin 1536) (l : Fin 512) :
    k0_pay18 a v b (ix2 r l) = v (ix2 r l) + ∑ k : Fin 128, sv (a (ix2 r k)) * ((1 / 1024 : ℝ) : EReal) * sv (b (ix2 k l)) := by
  unfold k0_pay18 k0_pay17
  rw [truncf_apply, addf_apply, ← bits_1024_bf16]
  refine congrArg (v (ix2 r l) + ·) ((Ideal.matmul_plain_apply none _ _ _ r l).trans ?_)
  rw [constant_apply, Ideal.ofBits_zero_f32, zero_add]
  rfl
theorem last1 (a : Vec Ideal S1536x128 .i8) (v : Vec Ideal S1536x512 .f32) (b : Vec Ideal S128x512 .i8) : k0_pay19 a v b = k0_pay18 a v b := rfl
theorem last2 (a : Vec Ideal S1536x128 .i8) (v : Vec Ideal S1536x512 .f32) (b : Vec Ideal S128x512 .i8) : k0_pay20 a v b = k0_pay18 a v b := rfl

/-! ## The device's result -/

variable (m : (ℓ : Loc nD τ sig) → Buf (Elt Ideal) ℓ)

theorem ix_within (r l : Fin 1536) (t : ℕ) (ht : t * 512 ≤ l.val) (ht' : l.val < t * 512 + 512) :
    within (ix2 r l) = ix2 r ⟨l.val - t * 512, by omega⟩ := by
  funext d
  refine Fin.ext ?_
  fin_cases d
  · rfl
  · show l.val % 512 = l.val - t * 512; omega

/-- The product of the device's own blocks. -/
theorem acc0_apply (c : Dev nD) (r l : Fin 1536) :
    acc0 m c (ix2 r l) = ∑ k : Fin 768, (A m c : Vec Ideal S1536x768 .f32) (ix2 r k) * (B m c : Vec Ideal S768x1536 .f32) (ix2 k l) := by
  unfold acc0
  by_cases h0 : l.val < 512
  · rw [glue3_0 _ _ _ (i := ix2 r l) h0, ix_within r l 0 (by omega) (by omega)]
    exact own0 _ _ r _ l (show l.val = 0 + (l.val - 0 * 512) by omega)
  by_cases h1 : l.val < 1024
  · rw [glue3_1 _ _ _ (i := ix2 r l) (show 512 ≤ l.val by omega) h1, ix_within r l 1 (by omega) (by omega)]
    exact own1 _ _ r _ l (show l.val = 512 + (l.val - 1 * 512) by omega)
  · rw [glue3_2 _ _ _ (i := ix2 r l) (show 1024 ≤ l.val by omega), ix_within r l 2 (by omega) (by omega)]
    exact own2 _ _ r _ l (show l.val = 1024 + (l.val - 2 * 512) by omega)

/-- The int8 block of `B` that device `c` puts together is the whole quantised block of its `y` neighbour. -/
def Whole (c : Dev nD) : Prop :=
  ∀ i : S768x1536.Idx, (bO m c i : BitVec 8) = quant (s := S768x1536) (F := Ideal) (B m (yn c)) i

section Out
variable {m} {c : Dev nD} (hB : Whole m c)
include hB

/-- The received int8s are the quantised neighbours. -/
theorem sv_a (r : Fin 1536) (k : Fin 768) : sv ((aO m c : S1536x768.Idx → BitVec 8) (ix2 r k)) = qv ((A m (yn c) : Vec Ideal S1536x768 .f32) (ix2 r k)) :=
  quant_back _ _
theorem sv_b (k : Fin 768) (l : Fin 1536) : sv ((bO m c : S768x1536.Idx → BitVec 8) (ix2 k l)) = qv ((B m (yn c) : Vec Ideal S768x1536 .f32) (ix2 k l)) := by
  exact (congrArg sv (hB (ix2 k l))).trans (quant_back _ _)

/-- The accumulator before the last piece. -/
theorem acc2_apply (r l : Fin 1536) :
    acc2 m c (ix2 r l) = acc0 m c (ix2 r l)
      + (∑ k : Fin 384, qv ((A m (yn c) : Vec Ideal S1536x768 .f32) (ix2 r ⟨k.val, by omega⟩)) * ((1 / 1024 : ℝ) : EReal) * qv ((B m (yn c) : Vec Ideal S768x1536 .f32) (ix2 ⟨k.val, by omega⟩ l)))
      + (∑ k : Fin 256, qv ((A m (yn c) : Vec Ideal S1536x768 .f32) (ix2 r ⟨384 + k.val, by omega⟩)) * ((1 / 1024 : ℝ) : EReal) * qv ((B m (yn c) : Vec Ideal S768x1536 .f32) (ix2 ⟨384 + k.val, by omega⟩ l))) := by
  unfold acc2
  refine (piece1 _ _ _ r l).trans ?_
  unfold acc1
  rw [piece0]
  refine congrArg₂ (· + ·) (congrArg (acc0 m c (ix2 r l) + ·) (Finset.sum_congr rfl fun k _ => ?_)) (Finset.sum_congr rfl fun k _ => ?_)
  · rw [rd, rd, emb_ix _ r k (by omega) (by omega), emb_ix _ k l (by omega) (by omega), sv_a hB, sv_b hB]
    simp only [Nat.zero_add]
  · rw [rd, rd, emb_ix _ r k (by omega) (by omega), emb_ix _ k l (by omega) (by omega), sv_a hB, sv_b hB]
    simp only [Nat.zero_add]

/-- The last piece on a block of columns, read in the whole matrices. -/
theorem out_block (o : ℕ) (inb) (inb') (w : Vec Ideal S1536x512 .bf16)
    (hw : w = k0_pay18 (aLast m c) (rd (acc2 m c) (Rect.unit (s := S1536x1536) ![0, o] ![1536, 512] inb))
      (rd (bO m c) (Rect.unit (s := S768x1536) ![640, o] ![128, 512] inb'))) (r : Fin 1536) (l : Fin 512) (l' : Fin 1536) (hl : l'.val = o + l.val) :
    w (ix2 r l) = mix (A m c : Vec Ideal S1536x768 .f32) (B m c : Vec Ideal S768x1536 .f32) (A m (yn c) : Vec Ideal S1536x768 .f32) (B m (yn c) : Vec Ideal S768x1536 .f32) r l' := by
  have hlt : o + l.val < 1536 := hl ▸ l'.isLt
  obtain rfl : l' = ⟨o + l.val, hlt⟩ := Fin.ext hl
  rw [hw]
  refine (last0 _ _ _ r l).trans ?_
  unfold mix
  rw [← pieces_eq, ← acc0_apply]
  refine congrArg₂ (· + ·) ?_ (Finset.sum_congr rfl fun k _ => ?_)
  · rw [rd, emb_ix _ r l (by omega) hlt, acc2_apply hB]
    simp only [Nat.zero_add]
  · unfold aLast
    rw [rd, rd, emb_ix _ r k (by omega) (by omega), emb_ix _ k l (by omega) hlt, sv_a hB, sv_b hB]
    simp only [Nat.zero_add]

/-- Every element of the device's result. -/
theorem out_apply (r l : Fin 1536) :
    out m c (ix2 r l) = mix (A m c : Vec Ideal S1536x768 .f32) (B m c : Vec Ideal S768x1536 .f32) (A m (yn c) : Vec Ideal S1536x768 .f32) (B m (yn c) : Vec Ideal S768x1536 .f32) r l := by
  unfold out
  by_cases h0 : l.val < 512
  · rw [glue3_0 _ _ _ (i := ix2 r l) h0, ix_within r l 0 (by omega) (by omega)]
    exact out_block hB 0 _ _ _ rfl r _ l (show l.val = 0 + (l.val - 0 * 512) by omega)
  by_cases h1 : l.val < 1024
  · rw [glue3_1 _ _ _ (i := ix2 r l) (show 512 ≤ l.val by omega) h1, ix_within r l 1 (by omega) (by omega)]
    exact out_block hB 512 _ _ _ (last1 _ _ _) r _ l (show l.val = 512 + (l.val - 1 * 512) by omega)
  · rw [glue3_2 _ _ _ (i := ix2 r l) (show 1024 ≤ l.val by omega), ix_within r l 2 (by omega) (by omega)]
    exact out_block hB 1024 _ _ _ (last2 _ _ _) r _ l (show l.val = 1024 + (l.val - 2 * 512) by omega)
end Out

end Cert.Exchange

end
-- ==== Proof.Value3.lean ====
/- Values: the reference's result over the extended reals, element by element. -/
module

public import proofs.«01_k».proof.Proof.Value2
public import proofs.«01_k».proof.Proof.Gen.ReferenceIdeal.Run

@[expose] public section

noncomputable section

namespace Cert.Exchange

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open scoped BigOperators
open Idealize.ShloMosaic.ValueIdx

/-! ## The reference -/

/-- Columns `o` to `o + 768` of the whole `A`. -/
def colsA (o : ℕ) (h : S3072x1536.Slices ![0, o] S3072x768) (a : FVec Ideal S3072x1536 .f32) : FVec Ideal S3072x768 .f32 :=
  extractStridedSlice S3072x768 ![0, o] a h
/-- Rows `o` to `o + 768` of the whole `B`. -/
def rowsB (o : ℕ) (h : S1536x1536.Slices ![o, 0] S768x1536) (b : FVec Ideal S1536x1536 .f32) : FVec Ideal S768x1536 .f32 :=
  extractStridedSlice S768x1536 ![o, 0] b h

abbrev aLo := colsA 0 slices_S3072x1536_S3072x768_0_0
abbrev aHi := colsA 768 slices_S3072x1536_S3072x768_0_768
abbrev bLo := rowsB 0 slices_S1536x1536_S768x1536_0_0
abbrev bHi := rowsB 768 slices_S1536x1536_S768x1536_768_0

/-- One half of the reference's columns: the product of one half, plus that of the other half quantised. -/
def halfOut (a a' : FVec Ideal S3072x768 .f32) (b b' : FVec Ideal S768x1536 .f32) : FVec Ideal S3072x1536 .f32 :=
  addf (Host.dotGeneral dot_S3072x768_S768x1536_S3072x1536_1_0_0_1_n_n none a b)
    (mulf (Host.dotGeneral dot_S3072x768_S768x1536_S3072x1536_1_0_0_1_n_n none
        (minimumf (broadcastInDim S3072x768 ![] bcast_S_S3072x768 (id (constant (F := Ideal) S_ .f32 0x42FE0000#32)))
          (maximumf (broadcastInDim S3072x768 ![] bcast_S_S3072x768 (id (constant (F := Ideal) S_ .f32 0xC2FE0000#32)))
            (Host.roundeven (mulf a' (broadcastInDim S3072x768 ![] bcast_S_S3072x768 (constant (F := Ideal) S_ .f32 0x42000000#32))))))
        (minimumf (broadcastInDim S768x1536 ![] bcast_S_S768x1536 (id (constant (F := Ideal) S_ .f32 0x42FE0000#32)))
          (maximumf (broadcastInDim S768x1536 ![] bcast_S_S768x1536 (id (constant (F := Ideal) S_ .f32 0xC2FE0000#32)))
            (Host.roundeven (mulf b' (broadcastInDim S768x1536 ![] bcast_S_S768x1536 (constant (F := Ideal) S_ .f32 0x42000000#32)))))))
      (broadcastInDim S3072x1536 ![] bcast_S_S3072x1536 (constant (F := Ideal) S_ .f32 0x3A800000#32)))

/-- Its elements. -/
theorem halfOut_apply (a a' : FVec Ideal S3072x768 .f32) (b b' : FVec Ideal S768x1536 .f32) (r : Fin 3072) (l : Fin 1536) :
    halfOut a a' b b' (ix2 r l) = mix a b a' b' r l := by
  unfold halfOut mix
  rw [addf_apply, mulf_apply, ← bits_1024_f32]
  refine congrArg₂ (· + ·) ?_ (congrArg₂ (· * ·) ?_ rfl)
  · refine (Ideal.matmul_plain_apply none a b (fun _ => (0 : EReal)) r l).trans ?_
    exact zero_add _
  · refine (Ideal.matmul_plain_apply (φ₁ := .f32) (φ₂ := .f32) none _ _ (fun _ => (0 : EReal)) r l).trans ?_
    exact zero_add _

/-- The reference's whole result. -/
def refOut (a : FVec Ideal S3072x1536 .f32) (b : FVec Ideal S1536x1536 .f32) : FVec Ideal S3072x3072 .bf16 :=
  truncf .bf16 (concatenate S3072x3072 1 [⟨S3072x1536, halfOut (aLo a) (aHi a) (bLo b) (bHi b)⟩, ⟨S3072x1536, halfOut (aHi a) (aLo a) (bHi b) (bLo b)⟩]
    concatenates_S3072x1536_S3072x1536_S3072x3072_d1) bitsLt_bf16_f32

/-- Its left half. -/
theorem refOut_left (a : FVec Ideal S3072x1536 .f32) (b : FVec Ideal S1536x1536 .f32) (r : Fin 3072) (L : Fin 3072) (l : Fin 1536) (h : L.val = l.val) :
    refOut a b (ix2 r L) = mix (aLo a) (bLo b) (aHi a) (bHi b) r l := by
  unfold refOut
  rw [truncf_apply]
  refine (concatenate_pair_apply_left (1 : Fin 2) (halfOut (aLo a) (aHi a) (bLo b) (bHi b)) (halfOut (aHi a) (aLo a) (bHi b) (bLo b))
    concatenates_S3072x1536_S3072x1536_S3072x3072_d1 (ix2 r L) rfl (ix2 r l) fun d => ?_).trans (halfOut_apply _ _ _ _ r l)
  fin_cases d
  · rfl
  · exact h.symm

/-- Its right half. -/
theorem refOut_right (a : FVec Ideal S3072x1536 .f32) (b : FVec Ideal S1536x1536 .f32) (r : Fin 3072) (L : Fin 3072) (l : Fin 1536) (h : L.val = 1536 + l.val) :
    refOut a b (ix2 r L) = mix (aHi a) (bHi b) (aLo a) (bLo b) r l := by
  unfold refOut
  rw [truncf_apply]
  refine (concatenate_pair_apply_right (1 : Fin 2) (halfOut (aLo a) (aHi a) (bLo b) (bHi b)) (halfOut (aHi a) (aLo a) (bHi b) (bLo b))
    concatenates_S3072x1536_S3072x1536_S3072x3072_d1 (ix2 r L) rfl rfl (ix2 r l) (fun d hd => ?_) ?_).trans (halfOut_apply _ _ _ _ r l)
  · fin_cases d
    · rfl
    · exact absurd rfl hd
  · show l.val + 1536 = L.val; omega

/-- The reference ends with its result at `refOut` of its arguments, the arguments as they were. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v31) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run (F := Ideal) m ρ

/-- The element of a half of `A`. -/
theorem colsA_apply (o : ℕ) (h) (a : FVec Ideal S3072x1536 .f32) (r : Fin 3072) (k : Fin 768) (hk : o + k.val < 1536) :
    colsA o h a (ix2 r k) = a (ix2 r ⟨o + k.val, hk⟩) := slice_cols (α := EReal) a h r k hk
/-- The element of a half of `B`. -/
theorem rowsB_apply (o : ℕ) (h) (b : FVec Ideal S1536x1536 .f32) (k : Fin 768) (l : Fin 1536) (hk : o + k.val < 1536) :
    rowsB o h b (ix2 k l) = b (ix2 ⟨o + k.val, hk⟩ l) := slice_rows (α := EReal) b h k l hk

end Cert.Exchange

end
-- ==== Proof.Value4.lean ====
/- Values: every device's result is its block of the reference's result. -/
module

public import proofs.«01_k».proof.Proof.Value3
public import Idealize.ShloMosaic.Lib.Layout

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open scoped BigOperators
open Idealize.ShloMosaic.ValueIdx

/-! ## The blocks of the whole arrays -/

/-- Device `c`'s element of an array cut along both axes of the mesh. -/
theorem blk_xy {P Q P' Q' : ℕ} {α : Type} (v : (⟨2, ![P', Q']⟩ : Shape).Idx → α) (h) (c : Fin 4) (r : Fin P) (l : Fin Q)
    (hr : c.val / 2 % 2 * P + r.val < P') (hl : c.val % 2 * Q + l.val < Q') :
    Layout.blockN ⟨2, ![P, Q]⟩ ⟨2, ![P', Q']⟩ (Layout.meshBlock [2, 2] ![[0], [1]] c) v h (ix2 r l) = v (ix2 ⟨_, hr⟩ ⟨_, hl⟩) := by
  rw [Layout.blockN_apply]
  refine congrArg v (funext fun d => Fin.ext ?_)
  fin_cases d
  · show (c.val / 2 % 2 * 1 + 0) * P + r.val = c.val / 2 % 2 * P + r.val
    rw [Nat.mul_one, Nat.add_zero]
  · show (c.val / 1 % 2 * 1 + 0) * Q + l.val = c.val % 2 * Q + l.val
    rw [Nat.mul_one, Nat.add_zero, Nat.div_one]

/-- Device `c`'s element of an array whose rows are cut along axis `y` alone. -/
theorem blk_y {P Q P' : ℕ} {α : Type} (v : (⟨2, ![P', Q]⟩ : Shape).Idx → α) (h) (c : Fin 4) (r : Fin P) (l : Fin Q)
    (hr : c.val % 2 * P + r.val < P') :
    Layout.blockN ⟨2, ![P, Q]⟩ ⟨2, ![P', Q]⟩ (Layout.meshBlock [2, 2] ![[1], []] c) v h (ix2 r l) = v (ix2 ⟨_, hr⟩ l) := by
  rw [Layout.blockN_apply]
  refine congrArg v (funext fun d => Fin.ext ?_)
  fin_cases d
  · show (c.val / 1 % 2 * 1 + 0) * P + r.val = c.val % 2 * P + r.val
    rw [Nat.mul_one, Nat.add_zero, Nat.div_one]
  · show 0 * Q + l.val = l.val
    rw [Nat.zero_mul, Nat.zero_add]

section Equal
variable (m : (ℓ : Loc nD τ sig) → Buf (Elt Ideal) ℓ) (a : FVec Ideal ⟨2, ![3072, 1536]⟩ .f32) (b : FVec Ideal ⟨2, ![1536, 1536]⟩ .f32)

/-- Every device holds its block of `A` and of `B`. -/
def Holds : Prop := ∀ c : Dev nD,
  (A m c : FVec Ideal ⟨2, ![1536, 768]⟩ .f32) = Layout.blockN ⟨2, ![1536, 768]⟩ ⟨2, ![3072, 1536]⟩ (Layout.meshBlock [2, 2] ![[0], [1]] c) a
  ∧ (B m c : FVec Ideal ⟨2, ![768, 1536]⟩ .f32) = Layout.blockN ⟨2, ![768, 1536]⟩ ⟨2, ![1536, 1536]⟩ (Layout.meshBlock [2, 2] ![[1], []] c) b

variable {m a b} (H : Holds m a b)
include H

theorem A_at (c : Dev nD) (r : Fin 1536) (k : Fin 768) (hr) (hk) :
    (A m c : FVec Ideal ⟨2, ![1536, 768]⟩ .f32) (ix2 r k) = a (ix2 ⟨c.val / 2 % 2 * 1536 + r.val, hr⟩ ⟨c.val % 2 * 768 + k.val, hk⟩) := by
  rw [(H c).1]; exact blk_xy (α := EReal) a _ c r k hr hk
theorem B_at (c : Dev nD) (k : Fin 768) (l : Fin 1536) (hk) :
    (B m c : FVec Ideal ⟨2, ![768, 1536]⟩ .f32) (ix2 k l) = b (ix2 ⟨c.val % 2 * 768 + k.val, hk⟩ l) := by
  rw [(H c).2]; exact blk_y (α := EReal) b _ c k l hk

/-- The two devices of a column hold the same block of `B`, so the block put together is the `y` neighbour's. -/
theorem whole (c : Dev nD) : Whole m c := by
  intro i
  have hc : c.val < 4 := c.isLt
  have e : (B m (yn (xn c)) : FVec Ideal ⟨2, ![768, 1536]⟩ .f32) = B m (yn c) := by
    rw [(H _).2, (H _).2]
    congr 1
    funext d
    refine Fin.ext ?_
    revert d c
    decide
  unfold bO
  split
  · rfl
  · exact congrArg (fun v : FVec Ideal S768x1536 .f32 => (quant v : IVec S768x1536 8) i) e

/-- Every device's result is its block of the reference's. -/
theorem out_eq (c : Dev nD) :
    (out m c : FVec Ideal ⟨2, ![1536, 1536]⟩ .bf16)
      = Layout.blockN ⟨2, ![1536, 1536]⟩ ⟨2, ![3072, 3072]⟩ (Layout.meshBlock [2, 2] ![[0], [1]] c) (refOut a b) := by
  have hc : c.val < 4 := c.isLt
  funext i
  obtain ⟨r, l, rfl⟩ : ∃ r l, i = ix2 r l := ⟨_, _, eq_ix2 i⟩
  have hr : c.val / 2 % 2 * 1536 + r.val < 3072 := by omega
  have hl : c.val % 2 * 1536 + l.val < 3072 := by omega
  have e1 : (yn c).val / 2 % 2 = c.val / 2 % 2 := by show (2 * (c.val / 2) + 1 - c.val % 2) / 2 % 2 = _; omega
  have e2 : (yn c).val % 2 = 1 - c.val % 2 := by show (2 * (c.val / 2) + 1 - c.val % 2) % 2 = _; omega
  rw [blk_xy (α := EReal) (refOut a b) _ c r l hr hl]
  refine (out_apply (whole H c) r l).trans ?_
  by_cases hy : c.val % 2 = 0
  · rw [refOut_left a b _ _ l (show c.val % 2 * 1536 + l.val = l.val by omega)]
    refine mix_congr (fun k => ?_) (fun k => ?_) (fun k => ?_) (fun k => ?_)
    · refine (A_at H c r k hr (by omega)).trans (Eq.trans ?_ (colsA_apply 0 _ a _ k (by omega)).symm)
      simp only [hy, Nat.zero_mul]
    · refine (B_at H c k l (by omega)).trans (Eq.trans ?_ (rowsB_apply 0 _ b k l (by omega)).symm)
      simp only [hy, Nat.zero_mul]
    · refine (A_at H (yn c) r k (by omega) (by omega)).trans (Eq.trans ?_ (colsA_apply 768 _ a _ k (by omega)).symm)
      simp only [e1, e2, hy, Nat.sub_zero, Nat.one_mul]
    · refine (B_at H (yn c) k l (by omega)).trans (Eq.trans ?_ (rowsB_apply 768 _ b k l (by omega)).symm)
      simp only [e2, hy, Nat.sub_zero, Nat.one_mul]
  · have hy1 : c.val % 2 = 1 := by omega
    rw [refOut_right a b _ _ l (show c.val % 2 * 1536 + l.val = 1536 + l.val by omega)]
    refine mix_congr (fun k => ?_) (fun k => ?_) (fun k => ?_) (fun k => ?_)
    · refine (A_at H c r k hr (by omega)).trans (Eq.trans ?_ (colsA_apply 768 _ a _ k (by omega)).symm)
      simp only [hy1, Nat.one_mul]
    · refine (B_at H c k l (by omega)).trans (Eq.trans ?_ (rowsB_apply 768 _ b k l (by omega)).symm)
      simp only [hy1, Nat.one_mul]
    · refine (A_at H (yn c) r k (by omega) (by omega)).trans (Eq.trans ?_ (colsA_apply 0 _ a _ k (by omega)).symm)
      simp only [e1, e2, hy1, Nat.sub_self, Nat.zero_mul]
    · refine (B_at H (yn c) k l (by omega)).trans (Eq.trans ?_ (rowsB_apply 0 _ b k l (by omega)).symm)
      simp only [e2, hy1, Nat.sub_self, Nat.zero_mul]
end Equal

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import proofs.«01_k».proof.Proof.Run
public import proofs.«01_k».proof.Proof.Value4
public import proofs.«01_k».proof.Proof.Gen.ReferenceIdeal.Run
public import Idealize.ShloMosaic.Init

@[expose] public section

noncomputable section

namespace Cert.Proof

open Idealize.ShloMosaic Idealize.SL.Sem Cert.Kernel

/-- The kernel as printed and the kernel for the extended reals run the same body under each label. -/
theorem defs₀_eq : (Cert.Kernel.defs₀ (F := Bits)) = Cert.KernelIdeal.defs₀ (F := Bits) := by
  unfold Cert.Kernel.defs₀ Cert.KernelIdeal.defs₀
  refine congrArg Defs.onTc (funext fun i => funext fun a => ?_)
  match i, a with
  | 0, (t, s) => rfl

/-- So their whole tables are the same. -/
theorem defs_eq : (Cert.Kernel.defs (F := Bits)) = Cert.KernelIdeal.defs (F := Bits) :=
  congrArg (Pipeline.defs Cert.KernelIdeal.pcfgs) defs₀_eq

/-- The kernel for the extended reals, read on machine words, ends with its arguments as it found them and every
    counter at zero. -/
theorem quiet_bits (m : (ℓ : Loc Cert.KernelIdeal.nD Cert.KernelIdeal.τ Cert.KernelIdeal.sig) → Buf (Elt Bits) ℓ)
    (g : Dev Cert.KernelIdeal.nD → PrngReg) :
    θ_run (Cert.KernelIdeal.defs (F := Bits)) (onTc (τ := Cert.KernelIdeal.τ) (Cert.KernelIdeal.main (F := Bits)))
      ⟨m, fun _ => 0, g⟩ (fun r => (∀ c : Dev Cert.KernelIdeal.nD,
        r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1))
        ∧ r.2.sem = fun _ => 0) :=
  (θ_run Cert.KernelIdeal.defs _ _).mono (fun _ h => ⟨fun c => (h.1 c).2, h.2⟩) (Cert.Exchange.run_main (F := Bits) m g)

/-- The kernel as printed ends with its arguments as it found them and every counter at zero. -/
theorem kernel_quiet : Cert.quiescent_Kernel := fun m ρ _ => by
  rw [defs_eq]
  exact quiet_bits m ρ

/-- The same of the kernel over the extended reals. -/
theorem kernelIdeal_quiet : Cert.quiescent_KernelIdeal := fun m ρ _ =>
  (θ_run Cert.KernelIdeal.defs _ _).mono (fun _ h => ⟨fun c => (h.1 c).2, h.2⟩) (Cert.Exchange.run_main (F := Ideal) m ρ)

/-- The same of the reference over the extended reals. -/
theorem referenceIdeal_quiet : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- On the same whole arrays, every device's result is its block of the reference's. -/
theorem algebraic : Cert.algebraic_KernelIdeal_ReferenceIdeal := fun m ρ m' ρ' _ H =>
  ⟨Cert.Exchange.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).1.trans (Cert.Exchange.out_eq H c), (h.1 c).2⟩) (Cert.Exchange.run_main (F := Ideal) m ρ),
    (θ_run Cert.ReferenceIdeal.defs _ _).mono (fun _ h => h 0) (Cert.Exchange.ref_run m' ρ')⟩

/-- Everything that is claimed of the three programs. -/
theorem claim : Cert.Claim := ⟨Cert.Kernel.Gen.facts, Cert.KernelIdeal.Gen.facts, Cert.ReferenceIdeal.Gen.facts,
  kernel_quiet, kernelIdeal_quiet, referenceIdeal_quiet, trivial, algebraic⟩

end Cert.Proof

end
